-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_memory [hPre_finite_memory : Cert.Pre_finite_memory.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_memory.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3)) (m ((c.tc : Thread Cert.MemAttnIdeal.nD Cert.MemAttnIdeal.τ).loc Cert.MemAttnIdeal.main_arg4)) (m ((c.tc : Thread Cert.MemAttnIdeal.nD Cert.MemAttnIdeal.τ).loc Cert.MemAttnIdeal.main_arg5)) (m ((c.tc : Thread Cert.MemAttnIdeal.nD Cert.MemAttnIdeal.τ).loc Cert.MemAttnIdeal.main_arg6))) = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_memory [hPre_finite_memory : Cert.Pre_finite_memory.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_memory.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3)) (m ((c.tc : Thread Cert.MemAttnRefIdeal.nD Cert.MemAttnRefIdeal.τ).loc Cert.MemAttnRefIdeal.main_arg4)) (m ((c.tc : Thread Cert.MemAttnRefIdeal.nD Cert.MemAttnRefIdeal.τ).loc Cert.MemAttnRefIdeal.main_arg5)) (m ((c.tc : Thread Cert.MemAttnRefIdeal.nD Cert.MemAttnRefIdeal.τ).loc Cert.MemAttnRefIdeal.main_arg6))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4)
      ∧ r.2.mem ((c.tc : Thread Cert.MemAttn.nD Cert.MemAttn.τ).loc Cert.MemAttn.main_arg5) = m ((c.tc : Thread Cert.MemAttn.nD Cert.MemAttn.τ).loc Cert.MemAttn.main_arg5)
      ∧ r.2.mem ((c.tc : Thread Cert.MemAttn.nD Cert.MemAttn.τ).loc Cert.MemAttn.main_arg6) = m ((c.tc : Thread Cert.MemAttn.nD Cert.MemAttn.τ).loc Cert.MemAttn.main_arg6))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6))
      ∧ r.2.sem = fun _ => 0)

def quiescent_MemAttnIdeal_pre_finite_memory [hMemAttnIdeal : Cert.MemAttnIdeal.Facts] [hPre_finite_memory : Cert.Pre_finite_memory.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_memory m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5)
      ∧ r.2.mem ((c.tc : Thread Cert.MemAttnRefIdeal.nD Cert.MemAttnRefIdeal.τ).loc Cert.MemAttnRefIdeal.main_arg6) = m ((c.tc : Thread Cert.MemAttnRefIdeal.nD Cert.MemAttnRefIdeal.τ).loc Cert.MemAttnRefIdeal.main_arg6))
      ∧ r.2.sem = fun _ => 0)

def quiescent_MemAttnRefIdeal_pre_finite_memory [hMemAttnRefIdeal : Cert.MemAttnRefIdeal.Facts] [hPre_finite_memory : Cert.Pre_finite_memory.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_memory m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5)
      ∧ r.2.mem ((c.tc : Thread Cert.MemAttnRefIdeal.nD Cert.MemAttnRefIdeal.τ).loc Cert.MemAttnRefIdeal.main_arg6) = m ((c.tc : Thread Cert.MemAttnRefIdeal.nD Cert.MemAttnRefIdeal.τ).loc Cert.MemAttnRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MemAttn_MemAttnIdeal : Prop :=
  True

def algebraic_MemAttnIdeal_MemAttnRefIdeal_pre_finite_memory [hMemAttnIdeal : Cert.MemAttnIdeal.Facts] [hMemAttnRefIdeal : Cert.MemAttnRefIdeal.Facts] [hPre_finite_memory : Cert.Pre_finite_memory.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_memory m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)
      ∧ m' ((c.tc : Thread Cert.MemAttnRefIdeal.nD Cert.MemAttnRefIdeal.τ).loc Cert.MemAttnRefIdeal.main_arg5) = m ((c.tc : Thread Cert.MemAttnIdeal.nD Cert.MemAttnIdeal.τ).loc Cert.MemAttnIdeal.main_arg5)
      ∧ m' ((c.tc : Thread Cert.MemAttnRefIdeal.nD Cert.MemAttnRefIdeal.τ).loc Cert.MemAttnRefIdeal.main_arg6) = m ((c.tc : Thread Cert.MemAttnIdeal.nD Cert.MemAttnIdeal.τ).loc Cert.MemAttnIdeal.main_arg6)) →
    ∃ (v0 : (c : Dev Cert.MemAttnIdeal.nD) → Buf (Elt Ideal) ((c.tc : Thread Cert.MemAttnIdeal.nD Cert.MemAttnIdeal.τ).loc Cert.MemAttnIdeal.main_v4)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v4) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
          ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
          ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v50) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4)
          ∧ r.2.mem ((c.tc : Thread Cert.MemAttnRefIdeal.nD Cert.MemAttnRefIdeal.τ).loc Cert.MemAttnRefIdeal.main_arg5) = m' ((c.tc : Thread Cert.MemAttnRefIdeal.nD Cert.MemAttnRefIdeal.τ).loc Cert.MemAttnRefIdeal.main_arg5)
          ∧ r.2.mem ((c.tc : Thread Cert.MemAttnRefIdeal.nD Cert.MemAttnRefIdeal.τ).loc Cert.MemAttnRefIdeal.main_arg6) = m' ((c.tc : Thread Cert.MemAttnRefIdeal.nD Cert.MemAttnRefIdeal.τ).loc Cert.MemAttnRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v31) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1_0)) (v1 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1_0) = v0 c
          ∧ r.2.mem ((c.tc : Thread Cert.MemKvIdeal.nD Cert.MemKvIdeal.τ).loc Cert.MemKvIdeal.main_v1_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_v4) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v13_0)) (v1 : (c : Dev Cert.RopeIdeal.nD) → Buf (Elt Ideal) ((c.tc : Thread Cert.RopeIdeal.nD Cert.RopeIdeal.τ).loc Cert.RopeIdeal.main_v13_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v13_0) = v0 c
          ∧ r.2.mem ((c.tc : Thread Cert.RopeIdeal.nD Cert.RopeIdeal.τ).loc Cert.RopeIdeal.main_v13_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v13) = v0 c
          ∧ r.2.mem ((c.tc : Thread Cert.RopeRefIdeal.nD Cert.RopeRefIdeal.τ).loc Cert.RopeRefIdeal.main_v15) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v37_0)) (v1 : (c : Dev Cert.MixIdeal.nD) → Buf (Elt Ideal) ((c.tc : Thread Cert.MixIdeal.nD Cert.MixIdeal.τ).loc Cert.MixIdeal.main_v37_1)) (v2 : (c : Dev Cert.MixIdeal.nD) → Buf (Elt Ideal) ((c.tc : Thread Cert.MixIdeal.nD Cert.MixIdeal.τ).loc Cert.MixIdeal.main_v37_2)) (v3 : (c : Dev Cert.MixIdeal.nD) → Buf (Elt Ideal) ((c.tc : Thread Cert.MixIdeal.nD Cert.MixIdeal.τ).loc Cert.MixIdeal.main_v37_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v37_0) = v0 c
          ∧ r.2.mem ((c.tc : Thread Cert.MixIdeal.nD Cert.MixIdeal.τ).loc Cert.MixIdeal.main_v37_1) = v1 c
          ∧ r.2.mem ((c.tc : Thread Cert.MixIdeal.nD Cert.MixIdeal.τ).loc Cert.MixIdeal.main_v37_2) = v2 c
          ∧ r.2.mem ((c.tc : Thread Cert.MixIdeal.nD Cert.MixIdeal.τ).loc Cert.MixIdeal.main_v37_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v169) = v0 c
          ∧ r.2.mem ((c.tc : Thread Cert.MixRefIdeal.nD Cert.MixRefIdeal.τ).loc Cert.MixRefIdeal.main_v171) = v1 c
          ∧ r.2.mem ((c.tc : Thread Cert.MixRefIdeal.nD Cert.MixRefIdeal.τ).loc Cert.MixRefIdeal.main_v173) = v2 c
          ∧ r.2.mem ((c.tc : Thread Cert.MixRefIdeal.nD Cert.MixRefIdeal.τ).loc Cert.MixRefIdeal.main_v175) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMemAttn : Cert.MemAttn.Facts) (hMemAttnIdeal : Cert.MemAttnIdeal.Facts) (hMemAttnRefIdeal : Cert.MemAttnRefIdeal.Facts) (hOut : Cert.Out.Facts) (hOutIdeal : Cert.OutIdeal.Facts) (hOutRefIdeal : Cert.OutRefIdeal.Facts) (hMemKv : Cert.MemKv.Facts) (hMemKvIdeal : Cert.MemKvIdeal.Facts) (hMemKvRefIdeal : Cert.MemKvRefIdeal.Facts) (hRope : Cert.Rope.Facts) (hRopeIdeal : Cert.RopeIdeal.Facts) (hRopeRefIdeal : Cert.RopeRefIdeal.Facts) (hMix : Cert.Mix.Facts) (hMixIdeal : Cert.MixIdeal.Facts) (hMixRefIdeal : Cert.MixRefIdeal.Facts) (hPre_finite_scores : Cert.Pre_finite_scores.Facts) (hPre_finite_memory : Cert.Pre_finite_memory.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_MemAttn (hMemAttn := hMemAttn)
    ∧ quiescent_MemAttnIdeal (hMemAttnIdeal := hMemAttnIdeal)
    ∧ quiescent_MemAttnIdeal_pre_finite_memory (hMemAttnIdeal := hMemAttnIdeal) (hPre_finite_memory := hPre_finite_memory)
    ∧ quiescent_MemAttnRefIdeal (hMemAttnRefIdeal := hMemAttnRefIdeal)
    ∧ quiescent_MemAttnRefIdeal_pre_finite_memory (hMemAttnRefIdeal := hMemAttnRefIdeal) (hPre_finite_memory := hPre_finite_memory)
    ∧ quiescent_Out (hOut := hOut)
    ∧ quiescent_OutIdeal (hOutIdeal := hOutIdeal)
    ∧ quiescent_OutRefIdeal (hOutRefIdeal := hOutRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Rope (hRope := hRope)
    ∧ quiescent_RopeIdeal (hRopeIdeal := hRopeIdeal)
    ∧ quiescent_RopeRefIdeal (hRopeRefIdeal := hRopeRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_MemAttn_MemAttnIdeal
    ∧ algebraic_MemAttnIdeal_MemAttnRefIdeal_pre_finite_memory (hMemAttnIdeal := hMemAttnIdeal) (hMemAttnRefIdeal := hMemAttnRefIdeal) (hPre_finite_memory := hPre_finite_memory)
    ∧ preserves_Out_OutIdeal
    ∧ algebraic_OutIdeal_OutRefIdeal (hOutIdeal := hOutIdeal) (hOutRefIdeal := hOutRefIdeal)
    ∧ preserves_MemKv_MemKvIdeal
    ∧ algebraic_MemKvIdeal_MemKvRefIdeal (hMemKvIdeal := hMemKvIdeal) (hMemKvRefIdeal := hMemKvRefIdeal)
    ∧ preserves_Rope_RopeIdeal
    ∧ algebraic_RopeIdeal_RopeRefIdeal (hRopeIdeal := hRopeIdeal) (hRopeRefIdeal := hRopeRefIdeal)
    ∧ preserves_Mix_MixIdeal
    ∧ algebraic_MixIdeal_MixRefIdeal (hMixIdeal := hMixIdeal) (hMixRefIdeal := hMixRefIdeal)
-- ==== Pre_finite_memory.lean ====
abbrev S8x4096x1024 : Shape := ⟨3, ![8, 4096, 1024]⟩
abbrev S8x256x1024 : Shape := ⟨3, ![8, 256, 1024]⟩
abbrev S1024x1024 : Shape := ⟨2, ![1024, 1024]⟩
abbrev S1024 : Shape := ⟨1, ![1024]⟩
abbrev S_ : Shape := ⟨0, ![]⟩

class Facts : Prop where
  bcast_S_S8x256x1024 : S_.BroadcastsInDim S8x256x1024 (![] : Fin 0 → Fin S8x256x1024.rank)
  reducesTo_S8x256x1024_S_d0_1_2 : S8x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x4096x1024 .f32) (main_arg1 : FVec F S8x256x1024 .bf16) (main_arg2 : FVec F S8x256x1024 .bf16) (main_arg3 : FVec F S1024x1024 .f32) (main_arg4 : FVec F S1024x1024 .f32) (main_arg5 : FVec F S1024 .f32) (main_arg6 : FVec F S1024 .f32) : IVec S_ 1 :=
  let main_v0 : FVec F S8x256x1024 .bf16 := Host.absf main_arg1
  let main_cst : FVec F S_ .bf16 := constant S_ .bf16 0x7F80#16
  let main_v1 : FVec F S8x256x1024 .bf16 := broadcastInDim S8x256x1024 ![] bcast_S_S8x256x1024 main_cst
  let main_v2 : IVec S8x256x1024 1 := cmpf .olt main_v0 main_v1
  let main_c : IVec S_ 1 := constantI S_ 1 1#1
  let main_v3 : IVec S_ 1 := (fun x v => Host.reduce IntOp.andi x v reducesTo_S8x256x1024_S_d0_1_2 h_S_) main_v2 main_c
  let main_v4 : FVec F S1024x1024 .f32 := Host.absf main_arg3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Pre_finite_scores.lean ====
abbrev S8x4096x1536 : Shape := ⟨3, ![8, 4096, 1536]⟩
abbrev S8x4096x768 : Shape := ⟨3, ![8, 4096, 768]⟩
abbrev S_ : Shape := ⟨0, ![]⟩

class Facts : Prop where
  bcast_S_S8x4096x1536 : S_.BroadcastsInDim S8x4096x1536 (![] : Fin 0 → Fin S8x4096x1536.rank)

variable [Facts]

def fn {F : FTy → Type} [FloatOps F] (main_arg0 : FVec F S8x4096x1536 .bf16) (main_arg1 : FVec F S8x4096x1536 .bf16) (main_arg2 : FVec F S8x4096x768 .bf16) : IVec S8x4096x1536 1 :=
  let main_v0 : FVec F S8x4096x1536 .bf16 := Host.absf main_arg0
  let main_cst : FVec F S_ .bf16 := constant S_ .bf16 0x7F80#16
  let main_v1 : FVec F S8x4096x1536 .bf16 := broadcastInDim S8x4096x1536 ![] bcast_S_S8x4096x1536 main_cst
  let main_v2 : IVec S8x4096x1536 1 := cmpf .olt main_v0 main_v1
  let main_v3 : FVec F S8x4096x1536 .bf16 := Host.absf main_arg1
  let main_cst_0 : FVec F S_ .bf16 := constant S_ .bf16 0x7F80#16
  let main_v4 : FVec F S8x4096x1536 .bf16 := broadcastInDim S8x4096x1536 ![] bcast_S_S8x4096x1536 main_cst_0
  let main_v5 : IVec S8x4096x1536 1 := cmpf .olt main_v3 main_v4
  let main_v6 : IVec S8x4096x1536 1 := andi main_v2 main_v5
  main_v6
-- ==== Kernel.lean ====
abbrev S8x4096x1536 : Shape := ⟨3, ![8, 4096, 1536]⟩
abbrev S8x4096x768 : Shape := ⟨3, ![8, 4096, 768]⟩
abbrev S1x512x256 : Shape := ⟨3, ![1, 512, 256]⟩
abbrev S1x4096x256 : Shape := ⟨3, ![1, 4096, 256]⟩
abbrev S1x4096x128 : Shape := ⟨3, ![1, 4096, 128]⟩
abbrev S1x512x128 : Shape := ⟨3, ![1, 512, 128]⟩
abbrev S512x256 : Shape := ⟨2, ![512, 256]⟩
abbrev S512x1 : Shape := ⟨2, ![512, 1]⟩
abbrev S512x128 : Shape := ⟨2, ![512, 128]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1536, .bf16⟩
  | .hbm, ⟨1, _⟩ => ⟨S8x4096x1536, .bf16⟩
  | .hbm, ⟨2, _⟩ => ⟨S8x4096x768, .bf16⟩
  | .hbm, ⟨3, _⟩ => ⟨S8x4096x768, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 6, 8], ![false, false, false]⟩

@[reducible] def k0_t1_loop (i : grid0.Coords) : Scf.Loop 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c512_i32_31 : BitVec 32 := 512#32
  let v97 : BitVec 32 := Scalar.muli arg7 c512_i32_31
  v97
def k0_off1 (i : grid0.Coords) (k0_t1 : Fin (k0_t1_loop i).trips) : Fin 3 → Nat :=
  let c0_32 : Index := 0#32
  let c0_i32 : BitVec 32 := 0#32
  let c1_i32_4 : BitVec 32 := 1#32
  let arg7 : BitVec 32 := Scf.iv c0_i32 c1_i32_4 k0_t1
  let c512_i32_31 : BitVec 32 := 512#32
  let v97 : BitVec 32 := Scalar.muli arg7 c512_i32_31
  let v98 : BitVec 32 := v97
  let v99 : Index := Scalar.indexCast v98
  let c0_33 : Index := 0#32
  ![0, v99.toNat, 0]
def k0_off2 (i : grid0.Coords) (k0_t1 : Fin (k0_t1_loop i).trips) : Fin 3 → Nat :=
  let c0_37 : Index := 0#32
  let c0_i32 : BitVec 32 := 0#32
  let c1_i32_4 : BitVec 32 := 1#32
  let arg7 : BitVec 32 := Scf.iv c0_i32 c1_i32_4 k0_t1
  let c512_i32_31 : BitVec 32 := 512#32
  let v97 : BitVec 32 := Scalar.muli arg7 c512_i32_31
  let v98 : BitVec 32 := v97
  let v118 : Index := Scalar.indexCast v98
  let c0_38 : Index := 0#32
  ![0, v118.toNat, 0]
@[reducible] def k0_t2_loop (i : grid0.Coords) : Scf.Loop 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c512_i32_31 : BitVec 32 := 512#32
  let v97 : BitVec 32 := Scalar.muli arg7 c512_i32_31
  v97
def k0_off3 (i : grid0.Coords) (k0_t2 : Fin (k0_t2_loop i).trips) : Fin 3 → Nat :=
  let c0_32 : Index := 0#32
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c512_i32_31 : BitVec 32 := 512#32
  let v97 : BitVec 32 := Scalar.muli arg7 c512_i32_31
  let v98 : BitVec 32 := v97
  let v99 : Index := Scalar.indexCast v98
  let c0_33 : Index := 0#32
  ![0, v99.toNat, 0]
def k0_off4 (i : grid0.Coords) (k0_t2 : Fin (k0_t2_loop i).trips) : Fin 3 → Nat :=
  let c0_37 : Index := 0#32
  let c0_i32 : BitVec 32 := 0#32
  let arg2 : BitVec 32 := BitVec.ofNat 32 (i 2).val
  let v5 : BitVec 32 := Scalar.subi arg2 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c512_i32_31 : BitVec 32 := 512#32
  let v97 : BitVec 32 := Scalar.muli arg7 c512_i32_31
  let v98 : BitVec 32 := v97
  let v118 : Index := Scalar.indexCast v98
  let c0_38 : Index := 0#32
  ![0, v118.toNat, 0]
def k0_mult3 (i : grid0.Coords) : BitVec 32 :=
  let arg2 : BitVec 32 := BitVec.ofNat 32 (i 2).val
  let c512_i32 : BitVec 32 := 512#32
  let v12 : BitVec 32 := Scalar.muli arg2 c512_i32
  v12
def k0_off5 (i : grid0.Coords) : Fin 3 → Nat :=
  let c0_6 : Index := 0#32
  let arg2 : BitVec 32 := BitVec.ofNat 32 (i 2).val
  let c512_i32 : BitVec 32 := 512#32
  let v12 : BitVec 32 := Scalar.muli arg2 c512_i32
  let v13 : BitVec 32 := v12
  let v14 : Index := Scalar.indexCast v13
  let c0_7 : Index := 0#32
  ![0, v14.toNat, 0]
def k0_off6 (i : grid0.Coords) : Fin 3 → Nat :=
  let c0_25 : Index := 0#32
  let arg2 : BitVec 32 := BitVec.ofNat 32 (i 2).val
  let c512_i32 : BitVec 32 := 512#32
  let v12 : BitVec 32 := Scalar.muli arg2 c512_i32
  let v13 : BitVec 32 := v12
  let v86 : Index := Scalar.indexCast v13
  let c0_26 : Index := 0#32
  ![0, v86.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x1536 : Shape := ⟨3, ![8, 4096, 1536]⟩
abbrev S8x4096x768 : Shape := ⟨3, ![8, 4096, 768]⟩
abbrev S8x4096x6x256 : Shape := ⟨4, ![8, 4096, 6, 256]⟩
abbrev S8x4096x6x128 : Shape := ⟨4, ![8, 4096, 6, 128]⟩
abbrev S4096 : Shape := ⟨1, ![4096]⟩
abbrev S_ : Shape := ⟨0, ![]⟩
abbrev S8x6x4096x4096 : Shape := ⟨4, ![8, 6, 4096, 4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S8x6x4096 : Shape := ⟨3, ![8, 6, 4096]⟩
abbrev S8x6x4096x1 : Shape := ⟨4, ![8, 6, 4096, 1]⟩
abbrev S8x6x128x4096 : Shape := ⟨4, ![8, 6, 128, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1536, .bf16⟩
  | .hbm, ⟨1, _⟩ => ⟨S8x4096x1536, .bf16⟩
  | .hbm, ⟨2, _⟩ => ⟨S8x4096x768, .bf16⟩
  | .hbm, ⟨3, _⟩ => ⟨S8x4096x1536, .f32⟩
  | .hbm, ⟨4, _⟩ => ⟨S8x4096x6x256, .f32⟩
  | .hbm, ⟨5, _⟩ => ⟨S8x4096x1536, .f32⟩
  | .hbm, ⟨6, _⟩ => ⟨S8x4096x6x256, .f32⟩
  | .hbm, ⟨7, _⟩ => ⟨S8x4096x768, .f32⟩
  | .hbm, ⟨8, _⟩ => ⟨S8x4096x6x128, .f32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S8x6x4096x4096, .f32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S1x1x4096x4096, .i1⟩
  | .hbm, ⟨35, _⟩ => ⟨S_, .f32⟩
  | .hbm, ⟨36, _⟩ => ⟨S_, .f32⟩
  | .hbm, ⟨37, _⟩ => ⟨S8x6x4096x4096, .i1⟩
  | .hbm, ⟨38, _⟩ => ⟨S8x6x4096x4096, .f32⟩
  | .hbm, ⟨39, _⟩ => ⟨S8x6x4096x4096, .f32⟩
  | .hbm, ⟨40, _⟩ => ⟨S_, .f32⟩
  | .hbm, ⟨41, _⟩ => ⟨S8x6x4096, .f32⟩
  | .hbm, ⟨42, _⟩ => ⟨S_, .f32⟩
  | .hbm, ⟨43, _⟩ => ⟨S8x6x4096, .f32⟩
  | .hbm, ⟨44, _⟩ => ⟨S8x6x4096, .f32⟩
  | .hbm, ⟨45, _⟩ => ⟨S8x6x4096x1, .f32⟩
  | .hbm, ⟨46, _⟩ => ⟨S8x6x4096x4096, .f32⟩
  | .hbm, ⟨47, _⟩ => ⟨S8x6x4096x4096, .f32⟩
  | .hbm, ⟨48, _⟩ => ⟨S8x6x4096x4096, .f32⟩
  | .hbm, ⟨49, _⟩ => ⟨S_, .f32⟩
  | .hbm, ⟨50, _⟩ => ⟨S8x6x4096, .f32⟩
  | .hbm, ⟨51, _⟩ => ⟨S8x6x4096x1, .f32⟩
  | .hbm, ⟨52, _⟩ => ⟨S8x6x4096x4096, .f32⟩
  | .hbm, ⟨53, _⟩ => ⟨S8x6x4096x4096, .f32⟩
  | .hbm, ⟨54, _⟩ => ⟨S8x6x128x4096, .f32⟩
  | .hbm, ⟨55, _⟩ => ⟨S8x4096x6x128, .f32⟩
  | .hbm, ⟨56, _⟩ => ⟨S8x4096x768, .f32⟩
  | .hbm, ⟨57, _⟩ => ⟨S8x4096x768, .bf16⟩
  | _, _ => ⟨S8x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩

abbrev nD : Nat := 1
abbrev τ : Topo := Topo.v7x

variable {F : FTy → Type} [FloatOps F]
-- ==== Ffn.lean ====
abbrev S8x4096x1024 : Shape := ⟨3, ![8, 4096, 1024]⟩
abbrev S1024x5632 : Shape := ⟨2, ![1024, 5632]⟩
abbrev S2816x1024 : Shape := ⟨2, ![2816, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x4096x1024 : Shape := ⟨3, ![8, 4096, 1024]⟩
abbrev S1024x5632 : Shape := ⟨2, ![1024, 5632]⟩
abbrev S2816x1024 : Shape := ⟨2, ![2816, 1024]⟩
abbrev S1024 : Shape := ⟨1, ![1024]⟩
abbrev S32768x1024 : Shape := ⟨2, ![32768, 1024]⟩
abbrev S32768x5632 : Shape := ⟨2, ![32768, 5632]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S32768x5632, .f32⟩
  | .hbm, ⟨7, _⟩ => ⟨S32768x2816, .f32⟩
  | .hbm, ⟨8, _⟩ => ⟨S32768x2816, .f32⟩
  | .hbm, ⟨9, _⟩ => ⟨S32768x2816, .f32⟩
  | .hbm, ⟨10, _⟩ => ⟨S32768x2816, .f32⟩
  | .hbm, ⟨11, _⟩ => ⟨S_, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== MemAttn.lean ====
abbrev S8x4096x1024 : Shape := ⟨3, ![8, 4096, 1024]⟩
abbrev S8x256x1024 : Shape := ⟨3, ![8, 256, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x256x1024 : Shape := ⟨3, ![1, 256, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .bf16⟩
  | .hbm, ⟨2, _⟩ => ⟨S8x256x1024, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MemAttnRefIdeal.lean ====
abbrev S8x4096x1024 : Shape := ⟨3, ![8, 4096, 1024]⟩
abbrev S8x256x1024 : Shape := ⟨3, ![8, 256, 1024]⟩
abbrev S1024x1024 : Shape := ⟨2, ![1024, 1024]⟩
abbrev S1024 : Shape := ⟨1, ![1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .bf16⟩
  | .hbm, ⟨2, _⟩ => ⟨S8x256x1024, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8x4096x1024, .f32⟩
  | .hbm, ⟨8, _⟩ => ⟨S8x4096x4x256, .f32⟩
  | .hbm, ⟨9, _⟩ => ⟨S8x256x1024, .f32⟩
  | .hbm, ⟨10, _⟩ => ⟨S8x256x4x256, .f32⟩
  | .hbm, ⟨11, _⟩ => ⟨S8x256x1024, .f32⟩
  | .hbm, ⟨12, _⟩ => ⟨S8x256x4x256, .f32⟩
  | .hbm, ⟨13, _⟩ => ⟨S8x4x4096x256, .f32⟩
  | .hbm, ⟨14, _⟩ => ⟨S_, .f32⟩
  | .hbm, ⟨15, _⟩ => ⟨S8x4x4096x256, .f32⟩
  | .hbm, ⟨16, _⟩ => ⟨S8x4x4096x256, .f32⟩
  | .hbm, ⟨17, _⟩ => ⟨S_, .f32⟩
  | .hbm, ⟨18, _⟩ => ⟨S8x4x4096, .f32⟩
  | .hbm, ⟨19, _⟩ => ⟨S_, .f32⟩
  | .hbm, ⟨20, _⟩ => ⟨S8x4x4096, .f32⟩
  | .hbm, ⟨21, _⟩ => ⟨S8x4x4096, .f32⟩
  | .hbm, ⟨22, _⟩ => ⟨S8x4x4096x1, .f32⟩
  | .hbm, ⟨23, _⟩ => ⟨S8x4x4096x256, .f32⟩
  | .hbm, ⟨24, _⟩ => ⟨S8x4x4096x256, .f32⟩
  | .hbm, ⟨25, _⟩ => ⟨S8x4x4096x256, .f32⟩
  | .hbm, ⟨26, _⟩ => ⟨S_, .f32⟩
  | .hbm, ⟨27, _⟩ => ⟨S8x4x4096, .f32⟩
  | .hbm, ⟨28, _⟩ => ⟨S8x4x4096x1, .f32⟩
  | .hbm, ⟨29, _⟩ => ⟨S8x4x4096x256, .f32⟩
  | .hbm, ⟨30, _⟩ => ⟨S8x4x4096x256, .f32⟩
  | .hbm, ⟨31, _⟩ => ⟨S8x4x256x4096, .f32⟩
  | .hbm, ⟨32, _⟩ => ⟨S8x4096x4x256, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Out.lean ====
abbrev S8x4096x1024 : Shape := ⟨3, ![8, 4096, 1024]⟩
abbrev S8x4096x256 : Shape := ⟨3, ![8, 4096, 256]⟩
abbrev S8x4096x768 : Shape := ⟨3, ![8, 4096, 768]⟩
abbrev S1024x1024 : Shape := ⟨2, ![1024, 1024]⟩
abbrev S1024 : Shape := ⟨1, ![1024]⟩
abbrev S32768x1024 : Shape := ⟨2, ![32768, 1024]⟩
abbrev S32768x256 : Shape := ⟨2, ![32768, 256]⟩
abbrev S32768x768 : Shape := ⟨2, ![32768, 768]⟩
abbrev S1x1024 : Shape := ⟨2, ![1, 1024]⟩
abbrev S512x1024 : Shape := ⟨2, ![512, 1024]⟩
abbrev S512x256 : Shape := ⟨2, ![512, 256]⟩
abbrev S512x768 : Shape := ⟨2, ![512, 768]⟩
abbrev S256x1024 : Shape := ⟨2, ![256, 1024]⟩
abbrev S768x1024 : Shape := ⟨2, ![768, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .bf16⟩
  | .hbm, ⟨2, _⟩ => ⟨S8x4096x768, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S32768x256, .bf16⟩
  | .hbm, ⟨8, _⟩ => ⟨S32768x768, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x768, .bf16⟩
  | .local _ .vmem, ⟨5, _⟩ => ⟨S512x768, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S8x4096x1024 : Shape := ⟨3, ![8, 4096, 1024]⟩
abbrev S8x4096x256 : Shape := ⟨3, ![8, 4096, 256]⟩
abbrev S8x4096x768 : Shape := ⟨3, ![8, 4096, 768]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .bf16⟩
  | .hbm, ⟨2, _⟩ => ⟨S8x4096x768, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x4096x256, .f32⟩
  | .hbm, ⟨7, _⟩ => ⟨S8x4096x768, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== MemKv.lean ====
abbrev S8x256x1024 : Shape := ⟨3, ![8, 256, 1024]⟩
abbrev S1024x2048 : Shape := ⟨2, ![1024, 2048]⟩
abbrev S1x256x1024 : Shape := ⟨3, ![1, 256, 1024]⟩
abbrev S256x1024 : Shape := ⟨2, ![256, 1024]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1024x2048, .f32⟩
  | .hbm, ⟨2, _⟩ => ⟨S1024x2048, .bf16⟩
  | .hbm, ⟨3, _⟩ => ⟨S8x256x1024, .bf16⟩
  | .hbm, ⟨4, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1024x2048, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S8x256x1024 : Shape := ⟨3, ![8, 256, 1024]⟩
abbrev S1024x2048 : Shape := ⟨2, ![1024, 2048]⟩
abbrev S8x256x2048 : Shape := ⟨3, ![8, 256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x2048, .f32⟩
  | .hbm, ⟨2, _⟩ => ⟨S8x256x2048, .f32⟩
  | .hbm, ⟨3, _⟩ => ⟨S8x256x1024, .f32⟩
  | .hbm, ⟨4, _⟩ => ⟨S8x256x1024, .f32⟩
  | .hbm, ⟨5, _⟩ => ⟨S8x256x1024, .bf16⟩
  | .hbm, ⟨6, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Rope.lean ====
abbrev S8x4096 : Shape := ⟨2, ![8, 4096]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S8192x4 : Shape := ⟨2, ![8192, 4]⟩
abbrev S8192x4x32 : Shape := ⟨3, ![8192, 4, 32]⟩
abbrev S8192x128 : Shape := ⟨2, ![8192, 128]⟩

abbrev nBuf : Space → Nat
  | .hbm => 18
  | .vmem => 4
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S4x32, .f32⟩
  | .hbm, ⟨11, _⟩ => ⟨S128, .f32⟩
  | .hbm, ⟨12, _⟩ => ⟨S1x128, .f32⟩
  | .hbm, ⟨13, _⟩ => ⟨S8192x4, .i32⟩
  | .hbm, ⟨14, _⟩ => ⟨S8192x4x32, .i32⟩
  | .hbm, ⟨15, _⟩ => ⟨S8192x128, .i32⟩
  | .hbm, ⟨16, _⟩ => ⟨S8192x128, .f32⟩
  | .hbm, ⟨17, _⟩ => ⟨S8192x128, .f32⟩
  | .local _ .vmem, ⟨0, _⟩ => ⟨S8192x128, .i32⟩
  | .local _ .vmem, ⟨1, _⟩ => ⟨S1x128, .f32⟩
  | .local _ .vmem, ⟨2, _⟩ => ⟨S8192x128, .f32⟩
  | .local _ .vmem, ⟨3, _⟩ => ⟨S8192x128, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RopeRefIdeal.lean ====
abbrev S8x4096 : Shape := ⟨2, ![8, 4096]⟩
abbrev S32 : Shape := ⟨1, ![32]⟩
abbrev S_ : Shape := ⟨0, ![]⟩
abbrev S8x4096x1 : Shape := ⟨3, ![8, 4096, 1]⟩
abbrev S1x1x32 : Shape := ⟨3, ![1, 1, 32]⟩
abbrev S8x4096x32 : Shape := ⟨3, ![8, 4096, 32]⟩
abbrev S8192x128 : Shape := ⟨2, ![8192, 128]⟩

abbrev nBuf : Space → Nat
  | .hbm => 19
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8x4096, .f32⟩
  | .hbm, ⟨10, _⟩ => ⟨S8x4096x1, .f32⟩
  | .hbm, ⟨11, _⟩ => ⟨S1x1x32, .f32⟩
  | .hbm, ⟨12, _⟩ => ⟨S8x4096x32, .f32⟩
  | .hbm, ⟨13, _⟩ => ⟨S8x4096x32, .f32⟩
  | .hbm, ⟨14, _⟩ => ⟨S8x4096x32, .f32⟩
  | .hbm, ⟨15, _⟩ => ⟨S8x4096x32, .f32⟩
  | .hbm, ⟨16, _⟩ => ⟨S8192x128, .f32⟩
  | .hbm, ⟨17, _⟩ => ⟨S8x4096x32, .f32⟩
  | .hbm, ⟨18, _⟩ => ⟨S8192x128, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Mix.lean ====
abbrev S8x4096x1024 : Shape := ⟨3, ![8, 4096, 1024]⟩
abbrev S8x4096x32 : Shape := ⟨3, ![8, 4096, 32]⟩
abbrev S1024x704 : Shape := ⟨2, ![1024, 704]⟩
abbrev S4x64x64 : Shape := ⟨3, ![4, 64, 64]⟩
abbrev S256 : Shape := ⟨1, ![256]⟩
abbrev S256x1152 : Shape := ⟨2, ![256, 1152]⟩
abbrev S128 : Shape := ⟨1, ![128]⟩
abbrev S128x1536 : Shape := ⟨2, ![128, 1536]⟩
abbrev S8x4096x128 : Shape := ⟨3, ![8, 4096, 128]⟩
abbrev S1024x64 : Shape := ⟨2, ![1024, 64]⟩
abbrev S1024x32 : Shape := ⟨2, ![1024, 32]⟩
abbrev S1024x640 : Shape := ⟨2, ![1024, 640]⟩
abbrev S1024x896 : Shape := ⟨2, ![1024, 896]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x256 : Shape := ⟨2, ![1, 256]⟩
abbrev S256x6x192 : Shape := ⟨3, ![256, 6, 192]⟩
abbrev S256x6x64 : Shape := ⟨3, ![256, 6, 64]⟩
abbrev S256x6x128 : Shape := ⟨3, ![256, 6, 128]⟩
abbrev S256x6x32 : Shape := ⟨3, ![256, 6, 32]⟩
abbrev S256x6x256 : Shape := ⟨3, ![256, 6, 256]⟩
abbrev S256x1536 : Shape := ⟨2, ![256, 1536]⟩
abbrev S1x128 : Shape := ⟨2, ![1, 128]⟩
abbrev S8x4096x256 : Shape := ⟨3, ![8, 4096, 256]⟩
abbrev S8x4096x1536 : Shape := ⟨3, ![8, 4096, 1536]⟩
abbrev S8x4096x768 : Shape := ⟨3, ![8, 4096, 768]⟩
abbrev S1x512x1024 : Shape := ⟨3, ![1, 512, 1024]⟩
abbrev S1x512x128 : Shape := ⟨3, ![1, 512, 128]⟩
abbrev S1x512x256 : Shape := ⟨3, ![1, 512, 256]⟩
abbrev S1x512x1536 : Shape := ⟨3, ![1, 512, 1536]⟩
abbrev S1x512x768 : Shape := ⟨3, ![1, 512, 768]⟩
abbrev S544x256 : Shape := ⟨2, ![544, 256]⟩
abbrev S32x256 : Shape := ⟨2, ![32, 256]⟩
abbrev S512x1024 : Shape := ⟨2, ![512, 1024]⟩
abbrev S512x896 : Shape := ⟨2, ![512, 896]⟩
abbrev S512x256 : Shape := ⟨2, ![512, 256]⟩
abbrev S512x128 : Shape := ⟨2, ![512, 128]⟩
abbrev S528x256 : Shape := ⟨2, ![528, 256]⟩
abbrev S512x1 : Shape := ⟨2, ![512, 1]⟩
abbrev S512 : Shape := ⟨1, ![512]⟩
abbrev S512x1536 : Shape := ⟨2, ![512, 1536]⟩

abbrev nBuf : Space → Nat
  | .hbm => 52
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x32, .f32⟩
  | .hbm, ⟨2, _⟩ => ⟨S8x4096x32, .f32⟩
  | .hbm, ⟨3, _⟩ => ⟨S1024x704, .f32⟩
  | .hbm, ⟨4, _⟩ => ⟨S4x64x64, .f32⟩
  | .hbm, ⟨5, _⟩ => ⟨S256, .f32⟩
  | .hbm, ⟨6, _⟩ => ⟨S256, .f32⟩
  | .hbm, ⟨7, _⟩ => ⟨S256x1152, .f32⟩
  | .hbm, ⟨8, _⟩ => ⟨S128, .f32⟩
  | .hbm, ⟨9, _⟩ => ⟨S128x1536, .f32⟩
  | .hbm, ⟨10, _⟩ => ⟨S8x4096x32, .f32⟩
  | .hbm, ⟨11, _⟩ => ⟨S8x4096x128, .f32⟩
  | .hbm, ⟨12, _⟩ => ⟨S8x4096x32, .f32⟩
  | .hbm, ⟨13, _⟩ => ⟨S8x4096x128, .f32⟩
  | .hbm, ⟨14, _⟩ => ⟨S1024x64, .f32⟩
  | .hbm, ⟨15, _⟩ => ⟨S1024x32, .f32⟩
  | .hbm, ⟨16, _⟩ => ⟨S1024x32, .f32⟩
  | .hbm, ⟨17, _⟩ => ⟨S1024x64, .f32⟩
  | .hbm, ⟨18, _⟩ => ⟨S1024x640, .f32⟩
  | .hbm, ⟨19, _⟩ => ⟨S1024x896, .f32⟩
  | .hbm, ⟨20, _⟩ => ⟨S1024x896, .bf16⟩
  | .hbm, ⟨21, _⟩ => ⟨S4x4, .i32⟩
  | .hbm, ⟨22, _⟩ => ⟨S4x4, .i32⟩
  | .hbm, ⟨23, _⟩ => ⟨S_, .i32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S4x4, .f32⟩
  | .hbm, ⟨28, _⟩ => ⟨S4x64x1x64, .f32⟩
  | .hbm, ⟨29, _⟩ => ⟨S4x1x4x1, .f32⟩
  | .hbm, ⟨30, _⟩ => ⟨S4x64x4x64, .f32⟩
  | .hbm, ⟨31, _⟩ => ⟨S4x64x4x64, .f32⟩
  | .hbm, ⟨32, _⟩ => ⟨S4x64x4x64, .f32⟩
  | .hbm, ⟨33, _⟩ => ⟨S256x256, .f32⟩
  | .hbm, ⟨34, _⟩ => ⟨S256x256, .bf16⟩
  | .hbm, ⟨35, _⟩ => ⟨S1x256, .f32⟩
  | .hbm, ⟨36, _⟩ => ⟨S1x256, .f32⟩
  | .hbm, ⟨37, _⟩ => ⟨S256x6x192, .f32⟩
  | .hbm, ⟨38, _⟩ => ⟨S256x6x64, .f32⟩
  | .hbm, ⟨39, _⟩ => ⟨S256x6x128, .f32⟩
  | .hbm, ⟨40, _⟩ => ⟨S256x6x32, .f32⟩
  | .hbm, ⟨41, _⟩ => ⟨S256x6x32, .f32⟩
  | .hbm, ⟨42, _⟩ => ⟨S256x6x64, .f32⟩
  | .hbm, ⟨43, _⟩ => ⟨S256x6x256, .f32⟩
  | .hbm, ⟨44, _⟩ => ⟨S256x1536, .f32⟩
  | .hbm, ⟨45, _⟩ => ⟨S256x1536, .bf16⟩
  | .hbm, ⟨46, _⟩ => ⟨S1x128, .f32⟩
  | .hbm, ⟨47, _⟩ => ⟨S128x1536, .bf16⟩
  | .hbm, ⟨48, _⟩ => ⟨S8x4096x256, .bf16⟩
  | .hbm, ⟨49, _⟩ => ⟨S8x4096x1536, .bf16⟩
  | .hbm, ⟨50, _⟩ => ⟨S8x4096x1536, .bf16⟩
  | .hbm, ⟨51, _⟩ => ⟨S8x4096x768, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1024x896, .bf16⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S256x1536, .bf16⟩
  | .local _ .vmem, ⟨11, _⟩ => ⟨S1x128, .f32⟩
  | .local _ .vmem, ⟨12, _⟩ => ⟨S128x1536, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x1536, .bf16⟩
  | .local _ .vmem, ⟨16, _⟩ => ⟨S1x512x1536, .bf16⟩
  | .local _ .vmem, ⟨17, _⟩ => ⟨S1x512x1536, .bf16⟩
  | .local _ .vmem, ⟨18, _⟩ => ⟨S1x512x1536, .bf16⟩
  | .local _ .vmem, ⟨19, _⟩ => ⟨S1x512x768, .bf16⟩
  | .local _ .vmem, ⟨20, _⟩ => ⟨S1x512x768, .bf16⟩
  | .local _ .vmem, ⟨21, _⟩ => ⟨S544x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v37_2 : Ref sig .tc := ⟨.hbm, 50, rfl⟩
abbrev main_v37_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixRefIdeal.lean ====
abbrev S8x4096x1024 : Shape := ⟨3, ![8, 4096, 1024]⟩
abbrev S8x4096x32 : Shape := ⟨3, ![8, 4096, 32]⟩
abbrev S1024x704 : Shape := ⟨2, ![1024, 704]⟩
abbrev S4x64x64 : Shape := ⟨3, ![4, 64, 64]⟩
abbrev S256 : Shape := ⟨1, ![256]⟩
abbrev S256x1152 : Shape := ⟨2, ![256, 1152]⟩
abbrev S128 : Shape := ⟨1, ![128]⟩
abbrev S128x1536 : Shape := ⟨2, ![128, 1536]⟩
abbrev S8x4096x704 : Shape := ⟨3, ![8, 4096, 704]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S8x4096x1152 : Shape := ⟨3, ![8, 4096, 1152]⟩
abbrev S8x4096x6x192 : Shape := ⟨4, ![8, 4096, 6, 192]⟩
abbrev S8x4096x6x32 : Shape := ⟨4, ![8, 4096, 6, 32]⟩
abbrev S8x4096x1x32 : Shape := ⟨4, ![8, 4096, 1, 32]⟩
abbrev S8x4096x6x128 : Shape := ⟨4, ![8, 4096, 6, 128]⟩
abbrev S8x4096x6x256 : Shape := ⟨4, ![8, 4096, 6, 256]⟩
abbrev S8x4096x128 : Shape := ⟨3, ![8, 4096, 128]⟩
abbrev S1x1x128 : Shape := ⟨3, ![1, 1, 128]⟩
abbrev S8x4096x1536 : Shape := ⟨3, ![8, 4096, 1536]⟩
abbrev S8x4096x64 : Shape := ⟨3, ![8, 4096, 64]⟩
abbrev S8x4096x1x64 : Shape := ⟨4, ![8, 4096, 1, 64]⟩
abbrev S8x4096x6x64 : Shape := ⟨4, ![8, 4096, 6, 64]⟩
abbrev S8x16x256 : Shape := ⟨3, ![8, 16, 256]⟩
abbrev S8x4112x256 : Shape := ⟨3, ![8, 4112, 256]⟩
abbrev S4096 : Shape := ⟨1, ![4096]⟩
abbrev S8x4112x64 : Shape := ⟨3, ![8, 4112, 64]⟩
abbrev S1x4096x1 : Shape := ⟨3, ![1, 4096, 1]⟩
abbrev S8x4096x4x64 : Shape := ⟨4, ![8, 4096, 4, 64]⟩
abbrev S4x64x8x4096 : Shape := ⟨4, ![4, 64, 8, 4096]⟩
abbrev S8x4096x768 : Shape := ⟨3, ![8, 4096, 768]⟩

abbrev nBuf : Space → Nat
  | .hbm => 202
  | .vmem => 0
  | .smem => 0
  | _ => 0

abbrev hbmTy0_0 (i : Nat) : BufTy := match i % 128 with
  | 0 => ⟨S8x4096x1024, .f32⟩
  | 1 => ⟨S8x4096x32, .f32⟩
  | 2 => ⟨S8x4096x32, .f32⟩
  | 3 => ⟨S1024x704, .f32⟩
  | 4 => ⟨S4x64x64, .f32⟩
  | 5 => ⟨S256, .f32⟩
  | 6 => ⟨S256, .f32⟩
  | 7 => ⟨S256x1152, .f32⟩
  | 8 => ⟨S128, .f32⟩
  | 9 => ⟨S128x1536, .f32⟩
  | 10 => ⟨S8x4096x704, .f32⟩
  | 11 => ⟨S8x4096x256, .f32⟩
  | 12 => ⟨S8x4096x256, .f32⟩
  | 13 => ⟨S_, .f32⟩
  | 14 => ⟨S8x4096, .f32⟩
  | 15 => ⟨S8x4096x1, .f32⟩
  | 16 => ⟨S_, .f32⟩
  | 17 => ⟨S8x4096x1, .f32⟩
  | 18 => ⟨S8x4096x1, .f32⟩
  | 19 => ⟨S_, .f32⟩
  | 20 => ⟨S8x4096x1, .f32⟩
  | 21 => ⟨S8x4096x1, .f32⟩
  | 22 => ⟨S8x4096x1, .f32⟩
  | 23 => ⟨S8x4096x256, .f32⟩
  | 24 => ⟨S8x4096x256, .f32⟩
  | 25 => ⟨S1x1x256, .f32⟩
  | 26 => ⟨S8x4096x256, .f32⟩
  | 27 => ⟨S8x4096x256, .f32⟩
  | 28 => ⟨S8x4096x1152, .f32⟩
  | 29 => ⟨S8x4096x6x192, .f32⟩
  | 30 => ⟨S_, .f32⟩
  | 31 => ⟨S8x4096x6x192, .f32⟩
  | 32 => ⟨S8x4096x6x192, .f32⟩
  | 33 => ⟨S8x4096x6x32, .f32⟩
  | 34 => ⟨S8x4096x6x32, .f32⟩
  | 35 => ⟨S8x4096x1x32, .f32⟩
  | 36 => ⟨S8x4096x1x32, .f32⟩
  | 37 => ⟨S8x4096x6x128, .f32⟩
  | 38 => ⟨S8x4096x6x32, .f32⟩
  | 39 => ⟨S8x4096x6x32, .f32⟩
  | 40 => ⟨S8x4096x6x32, .f32⟩
  | 41 => ⟨S8x4096x6x32, .f32⟩
  | 42 => ⟨S8x4096x6x32, .f32⟩
  | 43 => ⟨S8x4096x6x32, .f32⟩
  | 44 => ⟨S8x4096x6x32, .f32⟩
  | 45 => ⟨S8x4096x6x32, .f32⟩
  | 46 => ⟨S8x4096x6x32, .f32⟩
  | 47 => ⟨S8x4096x6x256, .f32⟩
  | 48 => ⟨S8x4096x128, .f32⟩
  | 49 => ⟨S8x4096x128, .f32⟩
  | 50 => ⟨S_, .f32⟩
  | 51 => ⟨S8x4096, .f32⟩
  | 52 => ⟨S8x4096x1, .f32⟩
  | 53 => ⟨S_, .f32⟩
  | 54 => ⟨S8x4096x1, .f32⟩
  | 55 => ⟨S8x4096x1, .f32⟩
  | 56 => ⟨S_, .f32⟩
  | 57 => ⟨S8x4096x1, .f32⟩
  | 58 => ⟨S8x4096x1, .f32⟩
  | 59 => ⟨S8x4096x1, .f32⟩
  | 60 => ⟨S8x4096x128, .f32⟩
  | 61 => ⟨S8x4096x128, .f32⟩
  | 62 => ⟨S1x1x128, .f32⟩
  | 63 => ⟨S8x4096x128, .f32⟩
  | 64 => ⟨S8x4096x128, .f32⟩
  | 65 => ⟨S8x4096x1536, .f32⟩
  | 66 => ⟨S8x4096x6x256, .f32⟩
  | 67 => ⟨S8x4096x6x128, .f32⟩
  | 68 => ⟨S8x4096x6x128, .f32⟩
  | 69 => ⟨S8x4096x32, .f32⟩
  | 70 => ⟨S8x4096x32, .f32⟩
  | 71 => ⟨S8x4096x32, .f32⟩
  | 72 => ⟨S8x4096x32, .f32⟩
  | 73 => ⟨S8x4096x32, .f32⟩
  | 74 => ⟨S8x4096x32, .f32⟩
  | 75 => ⟨S8x4096x32, .f32⟩
  | 76 => ⟨S8x4096x32, .f32⟩
  | 77 => ⟨S8x4096x64, .f32⟩
  | 78 => ⟨S8x4096x1x64, .f32⟩
  | 79 => ⟨S8x4096x6x64, .f32⟩
  | 80 => ⟨S8x4096x6x256, .f32⟩
  | 81 => ⟨S8x4096x256, .f32⟩
  | 82 => ⟨S_, .f32⟩
  | 83 => ⟨S8x16x256, .f32⟩
  | 84 => ⟨S8x4112x256, .f32⟩
  | 85 => ⟨S4096, .i32⟩
  | 86 => ⟨S8x4112x64, .f32⟩
  | 87 => ⟨S8x4096x64, .f32⟩
  | 88 => ⟨S8x4096x64, .f32⟩
  | 89 => ⟨S8x4096x64, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .f32⟩
  | 97 => ⟨S1x4096x1, .f32⟩
  | 98 => ⟨S8x4096x64, .f32⟩
  | 99 => ⟨S8x4096x64, .f32⟩
  | 100 => ⟨S8x4112x64, .f32⟩
  | 101 => ⟨S8x4096x64, .f32⟩
  | 102 => ⟨S8x4096x64, .f32⟩
  | 103 => ⟨S8x4096x64, .f32⟩
  | 104 => ⟨S8x4096x64, .f32⟩
  | 105 => ⟨S8x4096x64, .f32⟩
  | 106 => ⟨S8x4096x64, .f32⟩
  | 107 => ⟨S8x4096x64, .f32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S4096, .f32⟩
  | 115 => ⟨S1x4096x1, .f32⟩
  | 116 => ⟨S8x4096x64, .f32⟩
  | 117 => ⟨S8x4096x64, .f32⟩
  | 118 => ⟨S8x4112x64, .f32⟩
  | 119 => ⟨S8x4096x64, .f32⟩
  | 120 => ⟨S8x4096x64, .f32⟩
  | 121 => ⟨S8x4096x64, .f32⟩
  | 122 => ⟨S8x4096x64, .f32⟩
  | 123 => ⟨S8x4096x64, .f32⟩
  | 124 => ⟨S8x4096x64, .f32⟩
  | 125 => ⟨S8x4096x64, .f32⟩
  | 126 => ⟨S8x4096x64, .f32⟩
  | 127 => ⟨S8x4096x64, .f32⟩
  | _ => ⟨S8x4096x1024, .f32⟩

abbrev hbmTy0_1 (i : Nat) : BufTy := match i % 128 with
  | 0 => ⟨S8x4096x64, .f32⟩
  | 1 => ⟨S8x4096x64, .f32⟩
  | 2 => ⟨S8x4096x64, .f32⟩
  | 3 => ⟨S8x4096x64, .f32⟩
  | 4 => ⟨S8x4096x64, .f32⟩
  | 5 => ⟨S8x4096x64, .f32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096, .f32⟩
  | 13 => ⟨S1x4096x1, .f32⟩
  | 14 => ⟨S8x4096x64, .f32⟩
  | 15 => ⟨S8x4096x64, .f32⟩
  | 16 => ⟨S8x4112x64, .f32⟩
  | 17 => ⟨S8x4096x64, .f32⟩
  | 18 => ⟨S8x4096x64, .f32⟩
  | 19 => ⟨S8x4096x64, .f32⟩
  | 20 => ⟨S8x4096x64, .f32⟩
  | 21 => ⟨S8x4096x64, .f32⟩
  | 22 => ⟨S8x4096x64, .f32⟩
  | 23 => ⟨S8x4096x64, .f32⟩
  | 24 => ⟨S8x4096x64, .f32⟩
  | 25 => ⟨S8x4096x64, .f32⟩
  | 26 => ⟨S8x4096x64, .f32⟩
  | 27 => ⟨S8x4096x64, .f32⟩
  | 28 => ⟨S8x4096x64, .f32⟩
  | 29 => ⟨S8x4096x64, .f32⟩
  | 30 => ⟨S8x4096x64, .f32⟩
  | 31 => ⟨S8x4096x64, .f32⟩
  | 32 => ⟨S8x4096x64, .f32⟩
  | 33 => ⟨S8x4096x64, .f32⟩
  | 34 => ⟨S8x4096x64, .f32⟩
  | 35 => ⟨S8x4096x64, .f32⟩
  | 36 => ⟨S8x4096x64, .f32⟩
  | 37 => ⟨S8x4096x64, .f32⟩
  | 38 => ⟨S8x4096x64, .f32⟩
  | 39 => ⟨S8x4096x64, .f32⟩
  | 40 => ⟨S8x4096x64, .f32⟩
  | 41 => ⟨S8x4096x64, .f32⟩
  | 42 => ⟨S8x4096x64, .f32⟩
  | 43 => ⟨S8x4096x64, .f32⟩
  | 44 => ⟨S8x4096x64, .f32⟩
  | 45 => ⟨S8x4096x64, .f32⟩
  | 46 => ⟨S8x4096x64, .f32⟩
  | 47 => ⟨S8x4096x64, .f32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096, .f32⟩
  | 55 => ⟨S1x4096x1, .f32⟩
  | 56 => ⟨S8x4096x64, .f32⟩
  | 57 => ⟨S8x4096x64, .f32⟩
  | 58 => ⟨S8x4096x256, .f32⟩
  | 59 => ⟨S8x4096x256, .f32⟩
  | 60 => ⟨S8x4096x4x64, .f32⟩
  | 61 => ⟨S4x64x8x4096, .f32⟩
  | 62 => ⟨S8x4096x4x64, .f32⟩
  | 63 => ⟨S8x4096x256, .f32⟩
  | 64 => ⟨S1x1x256, .f32⟩
  | 65 => ⟨S8x4096x256, .f32⟩
  | 66 => ⟨S8x4096x256, .f32⟩
  | 67 => ⟨S8x4096x256, .bf16⟩
  | 68 => ⟨S8x4096x1536, .f32⟩
  | 69 => ⟨S8x4096x1536, .bf16⟩
  | 70 => ⟨S8x4096x1536, .f32⟩
  | 71 => ⟨S8x4096x1536, .bf16⟩
  | 72 => ⟨S8x4096x768, .f32⟩
  | 73 => ⟨S8x4096x768, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_6 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c : Ref sig .tc := ⟨.hbm, 90, rfl⟩
abbrev main_v72 : Ref sig .tc := ⟨.hbm, 91, rfl⟩
abbrev main_v73 : Ref sig .tc := ⟨.hbm, 92, rfl⟩
abbrev main_c_7 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c_8 : Ref sig .tc := ⟨.hbm, 108, rfl⟩
abbrev main_v88 : Ref sig .tc := ⟨.hbm, 109, rfl⟩
abbrev main_v89 : Ref sig .tc := ⟨.hbm, 110, rfl⟩
abbrev main_c_9 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_c_10 : Ref sig .tc := ⟨.hbm, 134, rfl⟩
abbrev main_v112 : Ref sig .tc := ⟨.hbm, 135, rfl⟩
abbrev main_v113 : Ref sig .tc := ⟨.hbm, 136, rfl⟩
abbrev main_c_11 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_c_12 : Ref sig .tc := ⟨.hbm, 176, rfl⟩
abbrev main_v152 : Ref sig .tc := ⟨.hbm, 177, rfl⟩
abbrev main_v153 : Ref sig .tc := ⟨.hbm, 178, rfl⟩
abbrev main_c_13 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩

abbrev nD : Nat := 1
abbrev τ : Topo := Topo.v7x

variable {F : FTy → Type} [FloatOps F]
-- ==== Proof.Common.lean ====
module

public import Idealize.ShloMosaic.Lib.Pointwise

/-!
What the calls of the layer share: the layer norm of one row, over the extended reals.
-/

@[expose] public section

noncomputable section

namespace Cert.Proof

open Idealize.ShloMosaic

/-- The mean of a row of 1024 entries: their sum divided by the constant 1024. -/
def rowMean (f : Fin 1024 → EReal) : EReal :=
  Ideal.div (∑ x, f x) (Ideal.ofBits .f32 0x44800000#32)

/-- The layer norm of the row `f` with scale `g` and shift `b`, at column `c`. -/
def layerNorm (f g b : Fin 1024 → EReal) (c : Fin 1024) : EReal :=
  (f c - rowMean f) * Ideal.rsqrt (rowMean (fun x => (f x - rowMean f) * (f x - rowMean f)) + Ideal.ofBits .f32 0x3727C5AC#32)
    * g c + b c

end Cert.Proof
-- ==== Proof.Softmax.lean ====
module

public import proofs.«01_k».proof.Proof.Common
public import Idealize.ShloMosaic.Lib.IdealHost

/-!
Softmax over the extended reals: sums of exponentials of scores that are real or `⊥`, the running maximum with its
rescaled sums, and the layer norm of a row with an infinite entry.
-/

@[expose] public section

noncomputable section

namespace Cert.Proof

open Idealize.ShloMosaic

/-- The pattern of the f32 minus infinity is `⊥`. -/
theorem ofBits_ninf : Ideal.ofBits .f32 0xFF800000#32 = ⊥ := by
  simp [Ideal.ofBits, Ideal.ieee]

/-- The pattern of the f32 infinity is `⊤`. -/
theorem ofBits_inf : Ideal.ofBits .f32 0x7F800000#32 = ⊤ := by
  simp [Ideal.ofBits, Ideal.ieee]

/-- The pattern `0x3D800000` is the real `1/16`. -/
theorem ofBits_sixteenth : Ideal.ofBits .f32 0x3D800000#32 = ((1 / 16 : ℝ) : EReal) := by
  simp [Ideal.ofBits, Ideal.ieee, -EReal.coe_mul]; norm_num

/-- The pattern `0x44800000` is the real `1024`. -/
theorem ofBits_1024 : Ideal.ofBits .f32 0x44800000#32 = ((1024 : ℝ) : EReal) := by
  simp [Ideal.ofBits, Ideal.ieee, -EReal.coe_mul]; norm_num

/-- A maximum folded from `⊥` is the supremum. -/
theorem fold_max_bot {ι : Type*} (s : Finset ι) (f : ι → EReal) : s.fold max ⊥ f = s.sup f := rfl

section Sums
variable {ι : Type*}

/-- The sum of reals, as an extended real. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor moves into a finite sum of extended reals. -/
theorem sum_mul_coe (s : Finset ι) (f : ι → EReal) (r : ℝ) (hr : 0 ≤ r) : (∑ i ∈ s, f i) * (r : EReal) = ∑ i ∈ s, f i * r := by
  classical
  induction s using Finset.induction_on with
  | empty => simp
  | insert a s ha ih =>
    rw [Finset.sum_insert ha, Finset.sum_insert ha, ← ih, EReal.right_distrib_of_nonneg_of_ne_top (by exact_mod_cast hr) (EReal.coe_ne_top _)]

/-- The same factor on the left. -/
theorem coe_mul_sum (s : Finset ι) (f : ι → EReal) (r : ℝ) (hr : 0 ≤ r) : (r : EReal) * (∑ i ∈ s, f i) = ∑ i ∈ s, r * f i := by
  simp only [mul_comm (r : EReal), sum_mul_coe s f r hr]

/-- Dividing by a positive real is multiplying by its inverse. -/
theorem div_pos (x : EReal) (r : ℝ) (hr : 0 < r) : Ideal.div x r = x * ((r⁻¹ : ℝ) : EReal) := by
  rw [Ideal.div, if_neg (by exact_mod_cast hr.ne'), EReal.coe_inv]

/-- A sum of products over a positive real: each first factor may be divided instead. -/
theorem div_sum_mul (s : Finset ι) (p v : ι → EReal) (r : ℝ) (hr : 0 < r) :
    Ideal.div (∑ i ∈ s, p i * v i) r = ∑ i ∈ s, v i * Ideal.div (p i) r := by
  rw [div_pos _ _ hr, sum_mul_coe _ _ _ (inv_nonneg.mpr hr.le)]
  refine Finset.sum_congr rfl fun i _ => ?_
  rw [div_pos _ _ hr, mul_comm (p i), mul_assoc]

end Sums

section Exp
variable {ι : Type*}

/-- The exponential of a score that is not `⊤` over a real maximum is a nonnegative real. -/
theorem exp_sub_real (s : EReal) (hs : s ≠ ⊤) (M : ℝ) : ∃ p : ℝ, 0 ≤ p ∧ Ideal.exp (s - M) = p ∧ (s ≠ ⊥ → 0 < p) := by
  induction s with
  | bot => exact ⟨0, le_rfl, by simp, fun h => absurd rfl h⟩
  | top => exact absurd rfl hs
  | coe r => exact ⟨Real.exp (r - M), (Real.exp_pos _).le, by rw [← EReal.coe_sub, Ideal.exp_coe], fun _ => Real.exp_pos _⟩

/-- The greatest of finitely many scores, none of them `⊤` and one of them not `⊥`, is real. -/
theorem sup_real (J : Finset ι) (s : ι → EReal) (hs : ∀ i ∈ J, s i ≠ ⊤) (i₀ : ι) (h₀ : i₀ ∈ J) (hi₀ : s i₀ ≠ ⊥) :
    ∃ M : ℝ, J.sup s = M := by
  have h1 : J.sup s ≠ ⊤ := ((Finset.sup_lt_iff (by simp)).mpr fun i hi => lt_top_iff_ne_top.mpr (hs i hi)).ne
  have h2 : J.sup s ≠ ⊥ := fun h => hi₀ (le_bot_iff.mp (h ▸ Finset.le_sup h₀))
  exact ⟨(J.sup s).toReal, (EReal.coe_toReal h1 h2).symm⟩

/-- The sum of the exponentials of such scores over a real maximum is a positive real. -/
theorem sumExp_real (J : Finset ι) (s : ι → EReal) (hs : ∀ i ∈ J, s i ≠ ⊤) (i₀ : ι) (h₀ : i₀ ∈ J) (hi₀ : s i₀ ≠ ⊥) (M : ℝ) :
    ∃ l : ℝ, 0 < l ∧ ∑ i ∈ J, Ideal.exp (s i - M) = l := by
  classical
  let p : ι → ℝ := fun i => (Ideal.exp (s i - M)).toReal
  have hp : ∀ i ∈ J, Ideal.exp (s i - M) = p i ∧ 0 ≤ p i ∧ (s i ≠ ⊥ → 0 < p i) := fun i hi => by
    obtain ⟨q, h0, hq, h1⟩ := exp_sub_real (s i) (hs i hi) M
    have : p i = q := by simp only [p, hq, EReal.toReal_coe]
    rw [this]; exact ⟨hq, h0, h1⟩
  refine ⟨∑ i ∈ J, p i, ?_, ?_⟩
  · exact Finset.sum_pos' (fun i hi => (hp i hi).2.1) ⟨i₀, h₀, (hp i₀ h₀).2.2 hi₀⟩
  · rw [coe_sum]
    exact Finset.sum_congr rfl fun i hi => (hp i hi).1

/-- SOFTMAX, two ways: the weighted sum of the exponentials over their sum is the sum weighted by the quotients. -/
theorem softmax_mul (J : Finset ι) (s v : ι → EReal) (hs : ∀ i ∈ J, s i ≠ ⊤) (i₀ : ι) (h₀ : i₀ ∈ J) (hi₀ : s i₀ ≠ ⊥) :
    Ideal.div (∑ i ∈ J, Ideal.exp (s i - J.sup s) * v i) (∑ i ∈ J, Ideal.exp (s i - J.sup s))
      = ∑ i ∈ J, v i * Ideal.div (Ideal.exp (s i - J.sup s)) (∑ i ∈ J, Ideal.exp (s i - J.sup s)) := by
  obtain ⟨M, hM⟩ := sup_real J s hs i₀ h₀ hi₀
  rw [hM]
  obtain ⟨l, hl, hL⟩ := sumExp_real J s hs i₀ h₀ hi₀ M
  rw [hL]
  exact div_sum_mul J _ v l hl

/-- Rescaling from a maximum `M` to a greater one `M'`: the factor times the exponential over `M` is the exponential
over `M'`, for every score below `M`. -/
theorem exp_rescale (s M M' : EReal) (h : s ≤ M) (h' : M ≤ M') (ht : M' ≠ ⊤) :
    Ideal.exp (M - M') * Ideal.exp (s - M) = Ideal.exp (s - M') := by
  induction s with
  | bot => simp
  | top => exact absurd (top_le_iff.mp (h.trans h')) ht
  | coe r =>
    have hM : M ≠ ⊥ := fun e => by simp [e] at h
    have hMt : M ≠ ⊤ := fun e => ht (top_le_iff.mp (e ▸ h'))
    have hM' : M' ≠ ⊥ := fun e => hM (le_bot_iff.mp (e ▸ h'))
    lift M to ℝ using ⟨hMt, hM⟩
    lift M' to ℝ using ⟨ht, hM'⟩
    rw [← EReal.coe_sub, ← EReal.coe_sub, ← EReal.coe_sub, Ideal.exp_coe, Ideal.exp_coe, Ideal.exp_coe, ← EReal.coe_mul, ← Real.exp_add]
    congr 2
    ring

/-- The rescaling factor is a nonnegative real. -/
theorem exp_factor_real (M M' : EReal) (h' : M ≤ M') (ht : M' ≠ ⊤) : ∃ r : ℝ, 0 ≤ r ∧ Ideal.exp (M - M') = r := by
  induction M with
  | bot => exact ⟨0, le_rfl, by simp⟩
  | top => exact absurd (top_le_iff.mp h') ht
  | coe r =>
    have hM' : M' ≠ ⊥ := fun e => by simp [e] at h'
    lift M' to ℝ using ⟨ht, hM'⟩
    exact ⟨Real.exp (r - M'), (Real.exp_pos _).le, by rw [← EReal.coe_sub, Ideal.exp_coe]⟩

/-- Rescaling a weighted sum of exponentials from its own maximum to a greater one. -/
theorem rescale_sum (J : Finset ι) (s v : ι → EReal) (M' : EReal) (h' : J.sup s ≤ M') (ht : M' ≠ ⊤) :
    Ideal.exp (J.sup s - M') * ∑ i ∈ J, Ideal.exp (s i - J.sup s) * v i = ∑ i ∈ J, Ideal.exp (s i - M') * v i := by
  obtain ⟨r, hr, e⟩ := exp_factor_real (J.sup s) M' h' ht
  rw [e, coe_mul_sum _ _ _ hr, ← e]
  refine Finset.sum_congr rfl fun i hi => ?_
  rw [← mul_assoc, exp_rescale _ _ _ (Finset.le_sup hi) h' ht]

/-- The same without weights. -/
theorem rescale_sum_one (J : Finset ι) (s : ι → EReal) (M' : EReal) (h' : J.sup s ≤ M') (ht : M' ≠ ⊤) :
    Ideal.exp (J.sup s - M') * ∑ i ∈ J, Ideal.exp (s i - J.sup s) = ∑ i ∈ J, Ideal.exp (s i - M') := by
  simpa using rescale_sum J s (fun _ => 1) M' h' ht

end Exp

section Norm

/-- A finite sum with an infinite term is infinite. -/
theorem sum_infinite {ι : Type*} (J : Finset ι) (f : ι → EReal) (h : ∃ i ∈ J, f i = ⊤ ∨ f i = ⊥) :
    (∑ i ∈ J, f i) = ⊤ ∨ (∑ i ∈ J, f i) = ⊥ := by
  classical
  induction J using Finset.induction_on with
  | empty => simp at h
  | insert a s ha ih =>
    rw [Finset.sum_insert ha]
    obtain ⟨i, hi, hf⟩ := h
    rcases Finset.mem_insert.mp hi with rfl | hi
    · rcases hf with hf | hf <;> rw [hf]
      · by_cases hb : (∑ i ∈ s, f i) = ⊥
        · right; rw [hb]; rfl
        · left; exact EReal.top_add_of_ne_bot hb
      · right; exact EReal.bot_add _
    · rcases ih ⟨i, hi, hf⟩ with e | e <;> rw [e]
      · by_cases hb : f a = ⊥
        · right; rw [hb]; rfl
        · left; exact EReal.add_top_of_ne_bot hb
      · right; exact EReal.add_bot _

/-- A row with an infinite entry has an infinite mean. -/
theorem rowMean_infinite (f : Fin 1024 → EReal) (h : ∃ i, f i = ⊤ ∨ f i = ⊥) : rowMean f = ⊤ ∨ rowMean f = ⊥ := by
  obtain ⟨i, hi⟩ := h
  rw [rowMean, ofBits_1024, div_pos _ _ (by norm_num)]
  rcases sum_infinite Finset.univ f ⟨i, Finset.mem_univ _, hi⟩ with e | e <;> rw [e]
  · left; exact EReal.top_mul_coe_of_pos (by norm_num)
  · right; exact EReal.bot_mul_coe_of_pos (by norm_num)

/-- The layer norm of a row with an infinite entry is its shift. -/
theorem layerNorm_infinite (f g b : Fin 1024 → EReal) (h : ∃ i, f i = ⊤ ∨ f i = ⊥) (c : Fin 1024) : layerNorm f g b c = b c := by
  have hz : ∀ x : Fin 1024, (f x - rowMean f) * (f x - rowMean f) = ⊤ := fun x => by
    rcases rowMean_infinite f h with e | e <;> rw [e]
    · rw [EReal.sub_top]; rfl
    · induction f x with
      | bot => rfl
      | top => rfl
      | coe r => rw [EReal.coe_sub_bot]; rfl
  have hv : rowMean (fun x => (f x - rowMean f) * (f x - rowMean f)) = ⊤ := by
    simp only [hz]
    rw [rowMean, ofBits_1024, div_pos _ _ (by norm_num)]
    have : (∑ _ : Fin 1024, (⊤ : EReal)) = ⊤ := by
      rw [Fin.sum_univ_succ, EReal.top_add_of_ne_bot]
      intro e
      have : (0 : EReal) ≤ ∑ _ : Fin 1023, (⊤ : EReal) := Finset.sum_nonneg fun _ _ => le_top
      rw [e] at this
      simp at this
    rw [this]
    exact EReal.top_mul_coe_of_pos (by norm_num)
  have he : (⊤ : EReal) + Ideal.ofBits .f32 0x3727C5AC#32 = ⊤ := by
    refine EReal.top_add_of_ne_bot ?_
    simp [Ideal.ofBits, Ideal.ieee, -EReal.coe_mul]
  rw [layerNorm, hv, he, Ideal.rsqrt_top]
  simp

end Norm

end Cert.Proof
-- ==== Proof.Finite.lean ====
module

public import proofs.«01_k».proof.Proof.Softmax
public import Idealize.ShloMosaic.Lib.ReduceAll
public import Idealize.ShloMosaic.Lib.Affine
public import proofs.«01_k».proof.Defs

/-!
What the precondition of the memory read says of an entry: it is a real number.
-/

@[expose] public section

set_option maxRecDepth 16384

noncomputable section

namespace Cert.Proof

open Idealize.ShloMosaic

/-- An extended real that is a real number. -/
def IsReal (x : EReal) : Prop := ∃ r : ℝ, x = r

theorem IsReal.ne_top {x : EReal} (h : IsReal x) : x ≠ ⊤ := by obtain ⟨r, rfl⟩ := h; exact EReal.coe_ne_top r

theorem IsReal.ne_bot {x : EReal} (h : IsReal x) : x ≠ ⊥ := by obtain ⟨r, rfl⟩ := h; exact EReal.coe_ne_bot r

theorem IsReal.mul {x y : EReal} (h : IsReal x) (h' : IsReal y) : IsReal (x * y) := by
  obtain ⟨r, rfl⟩ := h; obtain ⟨r', rfl⟩ := h'; exact ⟨r * r', (EReal.coe_mul r r').symm⟩

/-- A finite sum of reals is real. -/
theorem IsReal.sum {ι : Type*} (s : Finset ι) (f : ι → EReal) (h : ∀ i ∈ s, IsReal (f i)) : IsReal (∑ i ∈ s, f i) := by
  refine ⟨∑ i ∈ s, (f i).toReal, ?_⟩
  rw [coe_sum]
  exact Finset.sum_congr rfl fun i hi => (EReal.coe_toReal (h i hi).ne_top (h i hi).ne_bot).symm

/-- The bf16 pattern of infinity is `⊤`. -/
theorem ofBits_inf_bf16 : Ideal.ofBits .bf16 0x7F80#16 = ⊤ := by
  simp [Ideal.ofBits, Ideal.ieee]

/-- An extended real whose absolute value compares below infinity is a real. -/
theorem isReal_of_lt (x y : EReal) (hy : y = ⊤) (h : Ideal.cmp .olt (max x (-x)) y = 1#1) : IsReal x := by
  subst hy
  have h' : max x (-x) < ⊤ := by
    by_contra hn
    rw [Ideal.cmp] at h
    simp only [decide_eq_false hn] at h
    exact absurd h (by decide)
  refine ⟨x.toReal, (EReal.coe_toReal (lt_of_le_of_lt (le_max_left _ _) h').ne ?_).symm⟩
  rintro rfl
  exact absurd h' (by simp)

/-- The shapes that `finite_memory`'s operations combine. -/
theorem finite_memory_facts : Cert.Pre_finite_memory.Facts where
  bcast_S_S8x256x1024 := by decide
  reducesTo_S8x256x1024_S_d0_1_2 := by decide
  h_S_ := by decide
  bcast_S_S1024x1024 := by decide
  reducesTo_S1024x1024_S_d0_1 := by decide

/-- What `finite_memory` says: the memory's keys and the query weights are real. -/
theorem finite_memory_real [Cert.Pre_finite_memory.Facts] (x : FVec Ideal Cert.Pre_finite_memory.S8x4096x1024 .f32) (k v : FVec Ideal Cert.Pre_finite_memory.S8x256x1024 .bf16)
    (wq wo : FVec Ideal Cert.Pre_finite_memory.S1024x1024 .f32) (g b : FVec Ideal Cert.Pre_finite_memory.S1024 .f32)
    (h : Cert.Pre_finite_memory.fn (F := Ideal) x k v wq wo g b = fun _ => 1#1) :
    (∀ i, IsReal (k i)) ∧ ∀ i, IsReal (wq i) := by
  have h0 := congrFun h (Shape.Idx.first Cert.Pre_finite_memory.Facts.h_S_)
  dsimp only [Cert.Pre_finite_memory.fn] at h0
  obtain ⟨h1, h2⟩ := IntOp.andi_eq_one.mp h0
  refine ⟨fun i => ?_, fun i => ?_⟩
  · exact isReal_of_lt _ _ ofBits_inf_bf16 (Host.reduce_andi_all _ _ _ _ _ h1 i)
  · exact isReal_of_lt _ _ ofBits_inf (Host.reduce_andi_all _ _ _ _ _ h2 i)

/-- The shapes that `finite_scores`'s operations combine. -/
theorem finite_scores_facts : Cert.Pre_finite_scores.Facts where
  bcast_S_S8x4096x1536 := by decide

/-- What `finite_scores` says: queries and keys are real. -/
theorem finite_scores_real [Cert.Pre_finite_scores.Facts] (q k : FVec Ideal Cert.Pre_finite_scores.S8x4096x1536 .bf16) (v : FVec Ideal Cert.Pre_finite_scores.S8x4096x768 .bf16)
    (h : Cert.Pre_finite_scores.fn (F := Ideal) q k v = fun _ => 1#1) :
    (∀ i, IsReal (q i)) ∧ ∀ i, IsReal (k i) := by
  have h0 := fun i => IntOp.andi_eq_one.mp (congrFun h i)
  exact ⟨fun i => isReal_of_lt _ _ ofBits_inf_bf16 (h0 i).1, fun i => isReal_of_lt _ _ ofBits_inf_bf16 (h0 i).2⟩

end Cert.Proof
-- ==== Proof.Ffn.lean ====
module

public import proofs.«01_k».proof.Proof.Gen.FfnIdeal.Value
public import proofs.«01_k».proof.Proof.Gen.FfnRefIdeal.Run
public import proofs.«01_k».proof.Proof.Common
public import Idealize.ShloMosaic.Lib.Pipeline.ValueKit
public import proofs.«01_k».proof.Defs

@[expose] public section

/-!
The feed-forward half-step: the kernel's result is the reference's over the extended reals. The kernel adds the
hidden units in two halves; everything else is the same arithmetic row by row.
-/

set_option maxRecDepth 16384

noncomputable section

namespace Cert.Proof.Ffn

open Idealize.ShloMosaic Idealize.ShloMosaic.TcCoe Idealize.SL.Sem
open Idealize.ShloMosaic.Pipeline (Dat)

/-- One hidden unit of the feed-forward block for the row `x`: `silu` of the gate times the up projection. -/
def hid (x : Fin 1024 → EReal) (w13 : (Shape.mk 2 ![1024, 5632]).Idx → EReal) (h : Fin 2816) : EReal :=
  (∑ k, x k * w13 (ix2 k ⟨h.val, by omega⟩)) * Ideal.logistic (∑ k, x k * w13 (ix2 k ⟨h.val, by omega⟩))
    * ∑ k, x k * w13 (ix2 k ⟨2816 + h.val, by omega⟩)

/-- A row of the residual sum before the layer norm: `ALPHA * x + 0.5 * ffn(x)`. -/
def pre (x : Fin 1024 → EReal) (w13 : (Shape.mk 2 ![1024, 5632]).Idx → EReal) (w2 : (Shape.mk 2 ![2816, 1024]).Idx → EReal)
    (c : Fin 1024) : EReal :=
  Ideal.ofBits .f32 0x3FB504F3#32 * x c + Ideal.ofBits .f32 0x3F000000#32 * ∑ h, hid x w13 h * w2 (ix2 h c)

section Kernel
open Cert.FfnIdeal Cert.FfnIdeal.Gen

/-- The body's layer norm, one entry. -/
theorem pay1_apply (v : FVec Ideal S512x1024 .f32) (g b : Vec Ideal S1x1024 .f32) (r : Fin 512) (c : Fin 1024) :
    k0_pay1 (F := Ideal) v g b (ix2 r c) = layerNorm (fun x => v (ix2 r x)) (fun x => g (ix2 0 x)) (fun x => b (ix2 0 x)) c := by
  pointwise [k0_pay1]
  rfl

/-- The body's residual sum, one entry: the hidden units in two halves of 1408. -/
theorem pay2_apply (x : Vec Ideal S512x1024 .f32) (w13 : Vec Ideal S1024x5632 .bf16) (w2 : Vec Ideal S2816x1024 .bf16) (r : Fin 512) (c : Fin 1024) :
    k0_pay2 (F := Ideal) x (View.ld w13 r0_1) (View.ld w13 r0_2) (View.ld w2 r0_3) (View.ld w13 r0_4) (View.ld w13 r0_5) (View.ld w2 r0_6) (ix2 r c)
      = pre (fun k => x (ix2 r k)) w13 w2 c := by
  rw [pre, Fin.sum_univ_two_halves 1408 1408 rfl]
  pointwise [k0_pay2]
  simp only [hid, ← Nat.add_assoc, Nat.reduceAdd]

/-- Which block each window shows at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ)

/-- The result, as a function of the arguments. -/
def G (x : Vec Ideal S8x4096x1024 .f32) (w13 : Vec Ideal S1024x5632 .f32) (w2 : Vec Ideal S2816x1024 .f32) (g b : Vec Ideal S1024 .f32) :
    Vec Ideal S32768x1024 .f32 := fun i =>
  layerNorm (pre (fun k => x (ix3 ⟨(i 0).val / 4096, by idx_bounds; omega⟩ ⟨(i 0).val % 4096, by omega⟩ k)) w13 w2)
    (fun k => g (ix1 k)) (fun k => b (ix1 k)) (i 1)

/-- The rows of `x` that grid point `t` reads. -/
theorem iblk0 (c : Dev nD) (t : Fin cfg0.N) (r : Fin 512) (k : Fin 1024) : iblk m c 0 t (ix2 r k)
    = m ((c : Thread nD τ).loc main_arg0) (ix3 ⟨(t.val * 512 + r.val) / 4096, by idx_bounds; omega⟩ ⟨(t.val * 512 + r.val) % 4096, by omega⟩ k) := by
  blk_simp [iblk]
  entry_read
  pointwise
  blk_ext [idx t]

/-- Every grid point reads the whole of `w13`. -/
theorem iblk1 (c : Dev nD) (t : Fin cfg0.N) : iblk m c 1 t = m ((c : Thread nD τ).loc main_arg1) := by
  funext j
  blk_simp [iblk]
  entry_read
  pointwise
  blk_ext [idx t]

/-- Every grid point reads the whole of `w2`. -/
theorem iblk2 (c : Dev nD) (t : Fin cfg0.N) : iblk m c 2 t = m ((c : Thread nD τ).loc main_arg2) := by
  funext j
  blk_simp [iblk]
  entry_read
  pointwise
  blk_ext [idx t]

/-- Every grid point reads the whole of `g`. -/
theorem iblk3 (c : Dev nD) (t : Fin cfg0.N) (k : Fin 1024) : iblk m c 3 t (ix2 0 k) = m ((c : Thread nD τ).loc main_arg3) (ix1 k) := by
  blk_simp [iblk]
  entry_read
  pointwise
  blk_ext [idx t]

/-- Every grid point reads the whole of `b`. -/
theorem iblk4 (c : Dev nD) (t : Fin cfg0.N) (k : Fin 1024) : iblk m c 4 t (ix2 0 k) = m ((c : Thread nD τ).loc main_arg4) (ix1 k) := by
  blk_simp [iblk]
  entry_read
  pointwise
  blk_ext [idx t]

/-- Where the output block of grid point `t` lies in the result. -/
theorem emb5 (t : Fin cfg0.N) (r : Fin 512) (k : Fin 1024) :
    ((cfg0.win 5).blk t).view.emb (ix2 r k) = ix2 ⟨t.val * 512 + r.val, by idx_bounds; omega⟩ k := by
  blk_ext [idx t]

/-- The kernel's result array after the run is the function `G` of the arguments. -/
theorem final (c : Dev nD) : (dats m 0 c).arrAt 5 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  frame_out
  idx_vars y
  refine (pay1_apply _ _ _ _ _).trans ?_
  simp only [iblk0 m c t, iblk1 m c t, iblk2 m c t, iblk3 m c t, iblk4 m c t, pay2_apply]
  exact (congrArg (G _ _ _ _ _) (emb5 t y0 y1)).symm
end Kernel

section Reference
open Cert.FfnRefIdeal Cert.FfnRefIdeal.Gen

/-- The reference's layer norm of the whole array `Y`, as its operations compute it. -/
def refNorm (Y : FVec Ideal S32768x1024 .f32) (g b : FVec Ideal S1024 .f32) : FVec Ideal S32768x1024 .f32 :=
  let mu := Host.divf (broadcastInDim S32768x1 ![0] bcast_S32768_S32768x1_0 (Host.reduceAdd Y (constant S_ .f32 0x00000000#32) reducesTo_S32768x1024_S32768_d1 h_S_)) (broadcastInDim S32768x1 ![] bcast_S_S32768x1 (constant S_ .f32 0x44800000#32))
  let z := subf Y (broadcastInDim S32768x1024 ![0, 1] bcast_S32768x1_S32768x1024_0_1 mu)
  let var := Host.divf (broadcastInDim S32768x1 ![0] bcast_S32768_S32768x1_0 (Host.reduceAdd (mulf z z) (constant S_ .f32 0x00000000#32) reducesTo_S32768x1024_S32768_d1 h_S_)) (broadcastInDim S32768x1 ![] bcast_S_S32768x1 (constant S_ .f32 0x44800000#32))
  addf (mulf (mulf z (broadcastInDim S32768x1024 ![0, 1] bcast_S32768x1_S32768x1024_0_1 (Host.rsqrt (addf var (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

/-- The reference's array before the layer norm, as its operations compute it. -/
def refY (x : FVec Ideal S8x4096x1024 .f32) (w13 : FVec Ideal S1024x5632 .f32) (w2 : FVec Ideal S2816x1024 .f32) : FVec Ideal S32768x1024 .f32 :=
  let X : FVec Ideal S32768x1024 .f32 := shapeCast _ x shapeCasts_S8x4096x1024_S32768x1024
  let D : FVec Ideal S32768x5632 .f32 := Host.dotGeneral dot_S32768x1024_S1024x5632_S32768x5632_1_0_0_1_n_n none X w13
  let A : FVec Ideal S32768x2816 .f32 := extractStridedSlice S32768x2816 ![0, 0] D slices_S32768x5632_S32768x2816_0_0
  let U : FVec Ideal S32768x2816 .f32 := extractStridedSlice S32768x2816 ![0, 2816] D slices_S32768x5632_S32768x2816_0_2816
  let one : FVec Ideal S32768x2816 .f32 := broadcastInDim S32768x2816 ![] bcast_S_S32768x2816 (constant S_ .f32 0x3F800000#32)
  let H : FVec Ideal S32768x2816 .f32 := mulf (mulf A (Host.divf one (addf one (Host.exp (Host.negf A))))) U
  addf (mulf (broadcastInDim S32768x1024 ![] bcast_S_S32768x1024 (constant S_ .f32 0x3FB504F3#32)) X)
    (mulf (broadcastInDim S32768x1024 ![] bcast_S_S32768x1024 (constant S_ .f32 0x3F000000#32))
      (Host.dotGeneral dot_S32768x2816_S2816x1024_S32768x1024_1_0_0_1_n_n none H w2))

/-- The reference's layer norm, one entry. -/
theorem refNorm_apply (Y : FVec Ideal S32768x1024 .f32) (g b : FVec Ideal S1024 .f32) (r : Fin 32768) (c : Fin 1024) :
    refNorm Y g b (ix2 r c) = layerNorm (fun x => Y (ix2 r x)) (fun x => g (ix1 x)) (fun x => b (ix1 x)) c := by
  pointwise [refNorm]
  rfl

/-- The reference's residual sum, one entry. -/
theorem refY_apply (x : FVec Ideal S8x4096x1024 .f32) (w13 : FVec Ideal S1024x5632 .f32) (w2 : FVec Ideal S2816x1024 .f32) (r : Fin 32768) (c : Fin 1024) :
    refY x w13 w2 (ix2 r c) = pre (fun k => x (ix3 ⟨r.val / 4096, by omega⟩ ⟨r.val % 4096, by omega⟩ k)) w13 w2 c := by
  pointwise [refY]
  rfl

/-- The reference's result, in two stages. -/
theorem res_eq (m : (ℓ : Loc nD τ sig) → Buf (Elt Ideal) ℓ) (d : Dev nD) :
    Cert.FfnRefIdeal.Value.res_main_v35 (F := Ideal) m d
      = refNorm (refY (m ((d.tc : Thread nD τ).loc main_arg0)) (m ((d.tc : Thread nD τ).loc main_arg1)) (m ((d.tc : Thread nD τ).loc main_arg2)))
          (m ((d.tc : Thread nD τ).loc main_arg3)) (m ((d.tc : Thread nD τ).loc main_arg4)) := rfl

/-- The reference's result is the function `G` of the arguments. -/
theorem res_G (m : (ℓ : Loc nD τ sig) → Buf (Elt Ideal) ℓ) (d : Dev nD) :
    Cert.FfnRefIdeal.Value.res_main_v35 (F := Ideal) m d
      = G (m ((d.tc : Thread nD τ).loc main_arg0)) (m ((d.tc : Thread nD τ).loc main_arg1)) (m ((d.tc : Thread nD τ).loc main_arg2))
          (m ((d.tc : Thread nD τ).loc main_arg3)) (m ((d.tc : Thread nD τ).loc main_arg4)) := by
  rw [res_eq]
  funext i
  idx_vars i
  refine (refNorm_apply _ _ _ _ _).trans ?_
  simp only [refY_apply]
  rfl
end Reference

/-- Kernel and reference, run from the same arguments over the extended reals, leave the same result. -/
theorem algebraic : Cert.algebraic_FfnIdeal_FfnRefIdeal := by
  pair_intro
  · run_from Cert.FfnIdeal.Gen.run_main m g
  · run_from Cert.FfnRefIdeal.Value.run m' g'
    obtain ⟨h0, h1, h2, h3, h4⟩ := hagree c
    rw [res_G, h0, h1, h2, h3, h4]
    exact (final m c).symm

end Cert.Proof.Ffn
-- ==== Proof.NormRef.lean ====
module

public import proofs.«01_k».proof.Proof.Gen.OutRefIdeal.Run
public import proofs.«01_k».proof.Proof.Common
public import Idealize.ShloMosaic.Lib.Pointwise

/-!
The layer norm of a whole (8, 4096, 1024) array, as the references compute it.
-/

@[expose] public section

set_option maxRecDepth 16384

noncomputable section

namespace Cert.Proof

open Idealize.ShloMosaic Idealize.ShloMosaic.TcCoe Idealize.SL.Sem
open Cert.OutRefIdeal Cert.OutRefIdeal.Gen

/-- The references' layer norm of the array `Y`, as its operations compute it. -/
def refNorm3 (Y : FVec Ideal S8x4096x1024 .f32) (g b : FVec Ideal S1024 .f32) : FVec Ideal S8x4096x1024 .f32 :=
  let mean (Z : FVec Ideal S8x4096x1024 .f32) : FVec Ideal S8x4096x1 .f32 :=
    Host.divf (broadcastInDim S8x4096x1 ![0, 1] bcast_S8x4096_S8x4096x1_0_1 (Host.reduceAdd Z (constant S_ .f32 0x00000000#32) reducesTo_S8x4096x1024_S8x4096_d2 h_S_)) (broadcastInDim S8x4096x1 ![] bcast_S_S8x4096x1 (constant S_ .f32 0x44800000#32))
  let wide (M : FVec Ideal S8x4096x1 .f32) : FVec Ideal S8x4096x1024 .f32 := broadcastInDim S8x4096x1024 ![0, 1, 2] bcast_S8x4096x1_S8x4096x1024_0_1_2 M
  let row (v : FVec Ideal S1024 .f32) : FVec Ideal S8x4096x1024 .f32 :=
    broadcastInDim S8x4096x1024 ![0, 1, 2] bcast_S1x1x1024_S8x4096x1024_0_1_2 (broadcastInDim S1x1x1024 ![2] bcast_S1024_S1x1x1024_2 v)
  let z := subf Y (wide (mean Y))
  addf (mulf (mulf z (wide (Host.rsqrt (addf (mean (mulf z z)) (broadcastInDim S8x4096x1 ![] bcast_S_S8x4096x1 (constant S_ .f32 0x3727C5AC#32)))))) (row g)) (row b)

/-- One entry of the references' layer norm is the layer norm of its row. -/
theorem refNorm3_apply (Y : FVec Ideal S8x4096x1024 .f32) (g b : FVec Ideal S1024 .f32) (n : Fin 8) (r : Fin 4096) (c : Fin 1024) :
    refNorm3 Y g b (ix3 n r c) = layerNorm (fun x => Y (ix3 n r x)) (fun x => g (ix1 x)) (fun x => b (ix1 x)) c := by
  pointwise [refNorm3]
  rfl

end Cert.Proof
-- ==== Proof.Out.lean ====
module

public import proofs.«01_k».proof.Proof.Gen.OutIdeal.Value
public import proofs.«01_k».proof.Proof.NormRef
public import Idealize.ShloMosaic.Lib.Pipeline.ValueKit
public import proofs.«01_k».proof.Defs

@[expose] public section

/-!
The output projection: the kernel's result is the reference's over the extended reals. The reference joins the pooled and
the attention features and multiplies once; the kernel multiplies each by its rows of the weight and adds.
-/

set_option maxRecDepth 16384

noncomputable section

namespace Cert.Proof.Out

open Idealize.ShloMosaic Idealize.ShloMosaic.TcCoe Idealize.SL.Sem
open Idealize.ShloMosaic.Pipeline (Dat)

/-- A row of the residual sum before the layer norm: `ALPHA * x` plus the 256 pooled features `p` and the 768 attention
features `a`, each against its rows of the weight. -/
def pre (x : Fin 1024 → EReal) (p : Fin 256 → EReal) (a : Fin 768 → EReal) (w : (Shape.mk 2 ![1024, 1024]).Idx → EReal)
    (c : Fin 1024) : EReal :=
  Ideal.ofBits .f32 0x3FB504F3#32 * x c
    + (∑ k, p k * w (ix2 ⟨k.val, by omega⟩ c) + ∑ k, a k * w (ix2 ⟨256 + k.val, by omega⟩ c))

section Kernel
open Cert.OutIdeal Cert.OutIdeal.Gen

/-- The body's result, one entry. -/
theorem pay_apply (x : Vec Ideal S512x1024 .f32) (p : Vec Ideal S512x256 .bf16) (a : Vec Ideal S512x768 .bf16)
    (w : Vec Ideal S1024x1024 .bf16) (g b : Vec Ideal S1x1024 .f32) (r : Fin 512) (c : Fin 1024) :
    k0_pay1 (F := Ideal) (k0_pay2 b) (k0_pay3 p (View.ld w r0_1) a (View.ld w r0_3) x) (k0_pay4 g) (ix2 r c)
      = layerNorm (pre (fun k => x (ix2 r k)) (fun k => p (ix2 r k)) (fun k => a (ix2 r k)) w) (fun x => g (ix2 0 x)) (fun x => b (ix2 0 x)) c := by
  pointwise [k0_pay1, k0_pay2, k0_pay3, k0_pay4]
  rfl

/-- Which block each window shows at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ)

/-- The result, as a function of the arguments. -/
def G (x : Vec Ideal S8x4096x1024 .f32) (p : Vec Ideal S8x4096x256 .bf16) (a : Vec Ideal S8x4096x768 .bf16)
    (w : Vec Ideal S1024x1024 .f32) (g b : Vec Ideal S1024 .f32) : Vec Ideal S32768x1024 .f32 := fun i =>
  have h : (i 0).val / 4096 < 8 := by idx_bounds; omega
  have h' : (i 0).val % 4096 < 4096 := by omega
  layerNorm (pre (fun k => x (ix3 ⟨(i 0).val / 4096, h⟩ ⟨(i 0).val % 4096, h'⟩ k)) (fun k => p (ix3 ⟨(i 0).val / 4096, h⟩ ⟨(i 0).val % 4096, h'⟩ k))
    (fun k => a (ix3 ⟨(i 0).val / 4096, h⟩ ⟨(i 0).val % 4096, h'⟩ k)) w) (fun k => g (ix1 k)) (fun k => b (ix1 k)) (i 1)

/-- The rows of `x` that grid point `t` reads. -/
theorem iblk0 (c : Dev nD) (t : Fin cfg0.N) (r : Fin 512) (k : Fin 1024) : iblk m c 0 t (ix2 r k)
    = m ((c : Thread nD τ).loc main_arg0) (ix3 ⟨(t.val * 512 + r.val) / 4096, by idx_bounds; omega⟩ ⟨(t.val * 512 + r.val) % 4096, by omega⟩ k) := by
  blk_simp [iblk]
  entry_read
  pointwise
  blk_ext [idx t]

/-- The rows of the pooled features that grid point `t` reads. -/
theorem iblk1 (c : Dev nD) (t : Fin cfg0.N) (r : Fin 512) (k : Fin 256) : iblk m c 1 t (ix2 r k)
    = m ((c : Thread nD τ).loc main_arg1) (ix3 ⟨(t.val * 512 + r.val) / 4096, by idx_bounds; omega⟩ ⟨(t.val * 512 + r.val) % 4096, by omega⟩ k) := by
  blk_simp [iblk]
  entry_read
  pointwise
  blk_ext [idx t]

/-- The rows of the attention features that grid point `t` reads. -/
theorem iblk2 (c : Dev nD) (t : Fin cfg0.N) (r : Fin 512) (k : Fin 768) : iblk m c 2 t (ix2 r k)
    = m ((c : Thread nD τ).loc main_arg2) (ix3 ⟨(t.val * 512 + r.val) / 4096, by idx_bounds; omega⟩ ⟨(t.val * 512 + r.val) % 4096, by omega⟩ k) := by
  blk_simp [iblk]
  entry_read
  pointwise
  blk_ext [idx t]

/-- Every grid point reads the whole of the weight. -/
theorem iblk3 (c : Dev nD) (t : Fin cfg0.N) : iblk m c 3 t = m ((c : Thread nD τ).loc main_arg3) := by
  funext j
  blk_simp [iblk]
  entry_read
  pointwise
  blk_ext [idx t]

/-- Every grid point reads the whole of `g`. -/
theorem iblk4 (c : Dev nD) (t : Fin cfg0.N) (k : Fin 1024) : iblk m c 4 t (ix2 0 k) = m ((c : Thread nD τ).loc main_arg4) (ix1 k) := by
  blk_simp [iblk]
  entry_read
  pointwise
  blk_ext [idx t]

/-- Every grid point reads the whole of `b`. -/
theorem iblk5 (c : Dev nD) (t : Fin cfg0.N) (k : Fin 1024) : iblk m c 5 t (ix2 0 k) = m ((c : Thread nD τ).loc main_arg5) (ix1 k) := by
  blk_simp [iblk]
  entry_read
  pointwise
  blk_ext [idx t]

/-- Where the output block of grid point `t` lies in the result. -/
theorem emb6 (t : Fin cfg0.N) (r : Fin 512) (k : Fin 1024) :
    ((cfg0.win 6).blk t).view.emb (ix2 r k) = ix2 ⟨t.val * 512 + r.val, by idx_bounds; omega⟩ k := by
  blk_ext [idx t]

/-- The kernel's result array after the run is the function `G` of the arguments. -/
theorem final (c : Dev nD) : (dats m 0 c).arrAt 6 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  idx_vars y
  refine (pay_apply _ _ _ _ _ _ _ _).trans ?_
  simp only [iblk0 m c t, iblk1 m c t, iblk2 m c t, iblk3 m c t, iblk4 m c t, iblk5 m c t]
  exact (congrArg (G _ _ _ _ _ _) (emb6 t y0 y1)).symm
end Kernel

section Reference
open Cert.OutRefIdeal Cert.OutRefIdeal.Gen

/-- The reference's array before the layer norm, as its operations compute it. -/
def refY (x : FVec Ideal S8x4096x1024 .f32) (p : FVec Ideal S8x4096x256 .bf16) (a : FVec Ideal S8x4096x768 .bf16)
    (w : FVec Ideal S1024x1024 .f32) : FVec Ideal S8x4096x1024 .f32 :=
  let J : FVec Ideal S8x4096x1024 .f32 := concatenate S8x4096x1024 2 [⟨S8x4096x256, extf .f32 p bitsLt_bf16_f32⟩, ⟨S8x4096x768, extf .f32 a bitsLt_bf16_f32⟩] concatenates_S8x4096x256_S8x4096x768_S8x4096x1024_d2
  addf (mulf (broadcastInDim S8x4096x1024 ![] bcast_S_S8x4096x1024 (constant S_ .f32 0x3FB504F3#32)) x)
    (Host.dotGeneral dot_S8x4096x1024_S1024x1024_S8x4096x1024_2_0_01_1_n_n none J w)

/-- The reference's residual sum, one entry. -/
theorem refY_apply (x : FVec Ideal S8x4096x1024 .f32) (p : FVec Ideal S8x4096x256 .bf16) (a : FVec Ideal S8x4096x768 .bf16)
    (w : FVec Ideal S1024x1024 .f32) (n : Fin 8) (r : Fin 4096) (c : Fin 1024) :
    refY x p a w (ix3 n r c) = pre (fun k => x (ix3 n r k)) (fun k => p (ix3 n r k)) (fun k => a (ix3 n r k)) w c := by
  pointwise [refY]
  rfl

/-- The reference's result, in two stages. -/
theorem res_eq (m : (ℓ : Loc nD τ sig) → Buf (Elt Ideal) ℓ) (d : Dev nD) :
    Cert.OutRefIdeal.Value.res_main_v31 (F := Ideal) m d
      = shapeCast S32768x1024 (refNorm3 (refY (m ((d.tc : Thread nD τ).loc main_arg0)) (m ((d.tc : Thread nD τ).loc main_arg1)) (m ((d.tc : Thread nD τ).loc main_arg2)) (m ((d.tc : Thread nD τ).loc main_arg3)))
          (m ((d.tc : Thread nD τ).loc main_arg4)) (m ((d.tc : Thread nD τ).loc main_arg5))) shapeCasts_S8x4096x1024_S32768x1024 := rfl

/-- The reference's result is the function `G` of the arguments. -/
theorem res_G (m : (ℓ : Loc nD τ sig) → Buf (Elt Ideal) ℓ) (d : Dev nD) :
    Cert.OutRefIdeal.Value.res_main_v31 (F := Ideal) m d
      = G (m ((d.tc : Thread nD τ).loc main_arg0)) (m ((d.tc : Thread nD τ).loc main_arg1)) (m ((d.tc : Thread nD τ).loc main_arg2))
          (m ((d.tc : Thread nD τ).loc main_arg3)) (m ((d.tc : Thread nD τ).loc main_arg4)) (m ((d.tc : Thread nD τ).loc main_arg5)) := by
  rw [res_eq]
  funext i
  idx_vars i
  pointwise
  refine (refNorm3_apply _ _ _ _ _ _).trans ?_
  simp only [refY_apply]
  rfl
end Reference

/-- Kernel and reference, run from the same arguments over the extended reals, leave the same result. -/
theorem algebraic : Cert.algebraic_OutIdeal_OutRefIdeal := by
  pair_intro
  · run_from Cert.OutIdeal.Gen.run_main m g
  · run_from Cert.OutRefIdeal.Value.run m' g'
    obtain ⟨h0, h1, h2, h3, h4, h5⟩ := hagree c
    rw [res_G, h0, h1, h2, h3, h4, h5]
    exact (final m c).symm

end Cert.Proof.Out
-- ==== Proof.MemKv.lean ====
module

public import proofs.«01_k».proof.Proof.Gen.MemKvIdeal.Value
public import proofs.«01_k».proof.Proof.Gen.MemKvRefIdeal.Run
public import Idealize.ShloMosaic.Lib.Pointwise
public import Idealize.ShloMosaic.Lib.Pipeline.ValueKit
public import proofs.«01_k».proof.Defs

@[expose] public section

/-!
The memory's keys and values: the kernel's two results are the reference's over the extended reals.
-/

set_option maxRecDepth 16384

noncomputable section

namespace Cert.Proof.MemKv

open Idealize.ShloMosaic Idealize.ShloMosaic.TcCoe Idealize.SL.Sem
open Idealize.ShloMosaic.Pipeline (Dat)

section Kernel
open Cert.MemKvIdeal Cert.MemKvIdeal.Gen

/-- Columns `o` to `o + 1024` of the memory's projection. -/
def G (o : ℕ) (ho : o ≤ 1024) (x : Vec Ideal S8x256x1024 .f32) (w : Vec Ideal S1024x2048 .f32) : Vec Ideal S8x256x1024 .bf16 := fun i =>
  ∑ k : Fin 1024, x (ix3 (i 0) (i 1) k) * w (ix2 k ⟨o + (i 2).val, by idx_bounds; omega⟩)

/-- Which block each window shows at each grid point. -/
theorem idx : ∀ t : Fin cfg0.N, win0_0.index t = ![t.val, 0, 0] ∧ win0_1.index t = ![0, 0] ∧ win0_2.index t = ![t.val, 0, 0]
    ∧ win0_3.index t = ![t.val, 0, 0] :=
  (by decide +kernel : ∀ t : Fin grid0.N, _)

variable (m : (ℓ : Loc nD τ sig) → Buf (Elt Ideal) ℓ)

/-- The keys the kernel leaves are the first half of the projection. -/
theorem final2 (c : Dev nD) : (dats m 0 c).arrAt 2 (cfgs 0).N
    = G 0 (by omega) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay2, k0_pay1, G]
  blk_point [iblk, V, idx t]

/-- The values the kernel leaves are the second half of the projection. -/
theorem final3 (c : Dev nD) : (dats m 0 c).arrAt 3 (cfgs 0).N
    = G 1024 (by omega) (m ((c : Thread nD τ).loc main_arg0)) (m ((c : Thread nD τ).loc main_arg1)) := by
  refine (dats m 0 c).arrAt_eq_of_covers 3 _ (by decide +kernel) fun t hf y => ?_
  blk_simp
  rw [after0_3]
  frame_out
  idx_vars y
  pointwise [k0_pay3, k0_pay1, G]
  blk_point [iblk, V, idx t]
end Kernel

section Reference
open Cert.MemKvRefIdeal Cert.MemKvRefIdeal.Gen

/-- The reference's projection of the memory, keys and values side by side. -/
def proj (x : FVec Ideal S8x256x1024 .f32) (w : FVec Ideal S1024x2048 .f32) : FVec Ideal S8x256x2048 .f32 :=
  Host.dotGeneral dot_S8x256x1024_S1024x2048_S8x256x2048_2_0_01_1_n_n none x w

/-- The reference's keys are the first half of the projection. -/
theorem first_half (x : FVec Ideal S8x256x1024 .f32) (w : FVec Ideal S1024x2048 .f32) :
    (truncf .bf16 (extractStridedSlice S8x256x1024 ![0, 0, 0] (proj x w)
      slices_S8x256x2048_S8x256x1024_0_0_0) bitsLt_bf16_f32 : FVec Ideal S8x256x1024 .bf16) = G 0 (by omega) x w := by
  funext i
  idx_vars i
  pointwise [G, proj]

/-- The reference's values are the second half of the projection. -/
theorem second_half (x : FVec Ideal S8x256x1024 .f32) (w : FVec Ideal S1024x2048 .f32) :
    (truncf .bf16 (extractStridedSlice S8x256x1024 ![0, 0, 1024] (proj x w)
      slices_S8x256x2048_S8x256x1024_0_0_1024) bitsLt_bf16_f32 : FVec Ideal S8x256x1024 .bf16) = G 1024 (by omega) x w := by
  funext i
  idx_vars i
  pointwise [G, proj]
end Reference

/-- Kernel and reference, run from the same arguments over the extended reals, leave the same two results. -/
theorem algebraic : Cert.algebraic_MemKvIdeal_MemKvRefIdeal := by
  pair_intro
  · run_from Cert.MemKvIdeal.Gen.run_main m g
  · run_from Cert.MemKvRefIdeal.Value.run m' g'
    · refine Eq.trans ?_ (final2 m c).symm
      exact first_half _ _
    · refine Eq.trans ?_ (final3 m c).symm
      exact second_half _ _

end Cert.Proof.MemKv
-- ==== Proof.MemAttn.lean ====
module

public import proofs.«01_k».proof.Proof.Gen.MemAttnIdeal.Value
public import proofs.«01_k».proof.Proof.Gen.MemAttnRefIdeal.Run
public import proofs.«01_k».proof.Proof.NormRef
public import Idealize.ShloMosaic.Lib.Pipeline.ValueKit
public import Idealize.ShloMosaic.Lib.Tactic.CleanTypes
public import proofs.«01_k».proof.Proof.Softmax
public import proofs.«01_k».proof.Proof.Finite
public import proofs.«01_k».proof.Defs

@[expose] public section

/-!
The memory read: the kernel's result is the reference's over the extended reals, when the memory's keys and the
query weights are real.
-/

set_option maxRecDepth 16384

noncomputable section

namespace Cert.Proof.MemAttn

open Idealize.ShloMosaic Idealize.ShloMosaic.TcCoe Idealize.SL.Sem
open Idealize.ShloMosaic.Pipeline (Dat)

/-- The scores of head `h`: the query's 256 columns of the head against every key's. -/
def score (q : Fin 1024 → EReal) (k : Fin 256 → Fin 1024 → EReal) (h : Fin 4) (j : Fin 256) : EReal :=
  ∑ d : Fin 256, q ⟨h.val * 256 + d.val, by omega⟩ * k j ⟨h.val * 256 + d.val, by omega⟩

/-- The head's weighted values at column `c`, the division last. -/
def att (q : Fin 1024 → EReal) (k v : Fin 256 → Fin 1024 → EReal) (c : Fin 1024) : EReal :=
  Ideal.div (∑ j, Ideal.exp (score q k ⟨c.val / 256, by omega⟩ j - Finset.univ.sup (score q k ⟨c.val / 256, by omega⟩)) * v j c)
    (∑ j, Ideal.exp (score q k ⟨c.val / 256, by omega⟩ j - Finset.univ.sup (score q k ⟨c.val / 256, by omega⟩)))

/-- Column `h * 256 + d` belongs to head `h`. -/
theorem att_head (q : Fin 1024 → EReal) (k v : Fin 256 → Fin 1024 → EReal) (h : Fin 4) (d : Fin 256) (c : Fin 1024)
    (hc : c.val = h.val * 256 + d.val) :
    att q k v c = Ideal.div (∑ j, Ideal.exp (score q k h j - Finset.univ.sup (score q k h)) * v j c)
      (∑ j, Ideal.exp (score q k h j - Finset.univ.sup (score q k h))) := by
  have e : (⟨c.val / 256, by omega⟩ : Fin 4) = h := Fin.ext (by simp only; omega)
  rw [att, e]

/-- Four blocks of 256 columns side by side. -/
def cat (f0 f1 f2 f3 : Fin 256 → EReal) (x : Fin 1024) : EReal :=
  if h : x.val < 256 then f0 ⟨x.val, h⟩
  else if h : x.val - 256 < 256 then f1 ⟨x.val - 256, h⟩
  else if h : x.val - 256 - 256 < 256 then f2 ⟨x.val - 256 - 256, h⟩
  else f3 ⟨x.val - 256 - 256 - 256, by omega⟩

/-- The blocks of one function of 1024 columns, side by side, are the function. -/
theorem cat_eq (f0 f1 f2 f3 : Fin 256 → EReal) (A : Fin 1024 → EReal)
    (e0 : ∀ d : Fin 256, f0 d = A ⟨d.val, by omega⟩) (e1 : ∀ d : Fin 256, f1 d = A ⟨256 + d.val, by omega⟩)
    (e2 : ∀ d : Fin 256, f2 d = A ⟨512 + d.val, by omega⟩) (e3 : ∀ d : Fin 256, f3 d = A ⟨768 + d.val, by omega⟩) :
    cat f0 f1 f2 f3 = A := by
  funext x
  unfold cat
  split_ifs
  · rw [e0]
  · rw [e1]; congr 1; ext; simp only; omega
  · rw [e2]; congr 1; ext; simp only; omega
  · rw [e3]; congr 1; ext; simp only; omega

/-- A row of the residual sum before the layer norm: `ALPHA * x` plus the heads' values against the output weight. -/
def pre (x R : Fin 1024 → EReal) (wo : (Shape.mk 2 ![1024, 1024]).Idx → EReal) (c : Fin 1024) : EReal :=
  Ideal.ofBits .f32 0x3FB504F3#32 * x c + ∑ k, R k * wo (ix2 k c)

/-- The kernel's result row, from the row of `x`, the batch's keys and values, and the weights. -/
def rowK (x : Fin 1024 → EReal) (k v : Fin 256 → Fin 1024 → EReal) (wq wo : (Shape.mk 2 ![1024, 1024]).Idx → EReal) (g b : Fin 1024 → EReal) (c : Fin 1024) : EReal :=
  layerNorm (pre x (att (fun c => (∑ i, x i * wq (ix2 i c)) * Ideal.ofBits .f32 0x3D800000#32) k v) wo) g b c

/-- The reference's scores of head `h`: scaled after the sum. -/
def scoreR (x : Fin 1024 → EReal) (k : Fin 256 → Fin 1024 → EReal) (wq : (Shape.mk 2 ![1024, 1024]).Idx → EReal) (h : Fin 4) (j : Fin 256) : EReal :=
  (∑ d : Fin 256, (∑ i, x i * wq (ix2 i ⟨h.val * 256 + d.val, by omega⟩)) * k j ⟨h.val * 256 + d.val, by omega⟩) * Ideal.ofBits .f32 0x3D800000#32

/-- The reference's weighted values at column `c`, the division first. -/
def attR (x : Fin 1024 → EReal) (k v : Fin 256 → Fin 1024 → EReal) (wq : (Shape.mk 2 ![1024, 1024]).Idx → EReal) (c : Fin 1024) : EReal :=
  ∑ j, v j c * Ideal.div (Ideal.exp (scoreR x k wq ⟨c.val / 256, by omega⟩ j - Finset.univ.sup (scoreR x k wq ⟨c.val / 256, by omega⟩)))
    (∑ j, Ideal.exp (scoreR x k wq ⟨c.val / 256, by omega⟩ j - Finset.univ.sup (scoreR x k wq ⟨c.val / 256, by omega⟩)))

/-- Scaling the queries or the scores is the same. -/
theorem score_eq (x : Fin 1024 → EReal) (k : Fin 256 → Fin 1024 → EReal) (wq : (Shape.mk 2 ![1024, 1024]).Idx → EReal) (h : Fin 4) :
    score (fun c => (∑ i, x i * wq (ix2 i c)) * Ideal.ofBits .f32 0x3D800000#32) k h = scoreR x k wq h := by
  funext j
  rw [score, scoreR, ofBits_sixteenth, sum_mul_coe _ _ _ (by norm_num)]
  exact Finset.sum_congr rfl fun d _ => mul_right_comm _ _ _

/-- The pattern `0x3FB504F3` is a positive real. -/
theorem ofBits_alpha : ∃ a : ℝ, 0 < a ∧ Ideal.ofBits .f32 0x3FB504F3#32 = (a : EReal) := by
  refine ⟨(2 ^ 23 + 3474675 : ℝ) / 2 ^ 23, ?_, ?_⟩
  · norm_num
  · simp [Ideal.ofBits, Ideal.ieee, -EReal.coe_mul]; norm_num

/-- An infinite entry of `x` leaves an infinite entry before the layer norm. -/
theorem pre_infinite (x R : Fin 1024 → EReal) (wo : (Shape.mk 2 ![1024, 1024]).Idx → EReal) (h : ∃ i, x i = ⊤ ∨ x i = ⊥) :
    ∃ i, pre x R wo i = ⊤ ∨ pre x R wo i = ⊥ := by
  obtain ⟨i, hi⟩ := h
  obtain ⟨a, ha, e⟩ := ofBits_alpha
  refine ⟨i, ?_⟩
  rw [pre, e]
  generalize (∑ k, R k * wo (ix2 k i)) = z
  rcases hi with hi | hi <;> rw [hi]
  · rw [EReal.coe_mul_top_of_pos ha]
    induction z with
    | bot => right; rfl
    | top => left; rfl
    | coe r => left; rfl
  · rw [EReal.coe_mul_bot_of_pos ha]
    right; exact EReal.bot_add z

/-- With real keys and query weights the two rows agree: a row of `x` with an infinite entry leaves the shift `b` in both,
    and on a real row the scores are real, so that dividing by their sum may come first or last. -/
theorem row_eq (x : Fin 1024 → EReal) (k v : Fin 256 → Fin 1024 → EReal) (wq wo : (Shape.mk 2 ![1024, 1024]).Idx → EReal) (g b : Fin 1024 → EReal)
    (hk : ∀ j c, IsReal (k j c)) (hw : ∀ i, IsReal (wq i)) (c : Fin 1024) :
    rowK x k v wq wo g b c = layerNorm (pre x (attR x k v wq) wo) g b c := by
  by_cases hx : ∃ i, x i = ⊤ ∨ x i = ⊥
  · rw [rowK, layerNorm_infinite _ _ _ (pre_infinite _ _ _ hx), layerNorm_infinite _ _ _ (pre_infinite _ _ _ hx)]
  · have hr : ∀ i, IsReal (x i) := fun i => by
      have h1 : x i ≠ ⊤ := fun e => hx ⟨i, Or.inl e⟩
      have h2 : x i ≠ ⊥ := fun e => hx ⟨i, Or.inr e⟩
      exact ⟨(x i).toReal, (EReal.coe_toReal h1 h2).symm⟩
    have hs : ∀ h j, IsReal (scoreR x k wq h j) := fun h j => by
      rw [scoreR, ofBits_sixteenth]
      exact (IsReal.sum _ _ fun d _ => (IsReal.sum _ _ fun i _ => (hr i).mul (hw _)).mul (hk _ _)).mul ⟨_, rfl⟩
    have e : att (fun c => (∑ i, x i * wq (ix2 i c)) * Ideal.ofBits .f32 0x3D800000#32) k v = attR x k v wq := by
      funext c
      rw [att, attR, score_eq]
      exact softmax_mul Finset.univ _ _ (fun j _ => (hs _ j).ne_top) 0 (Finset.mem_univ _) (hs _ 0).ne_bot
    rw [rowK, e]

section Kernel
open Cert.MemAttnIdeal Cert.MemAttnIdeal.Gen

/-- The body's scaled queries, one entry. -/
theorem pay2_apply (x : Vec Ideal S1x512x1024 .f32) (w : Vec Ideal S1024x1024 .bf16) (r : Fin 512) (c : Fin 1024) :
    k0_pay2 (F := Ideal) x w (ix2 r c) = (∑ i, x (ix3 0 r i) * w (ix2 i c)) * Ideal.ofBits .f32 0x3D800000#32 := by
  pointwise [k0_pay2, k0_pay1]

/-- The first head's values. -/
theorem head0 (x : Vec Ideal S1x512x1024 .f32) (w : Vec Ideal S1024x1024 .bf16) (k v : Vec Ideal S1x256x1024 .bf16) (r : Fin 512) (d : Fin 256) :
    k0_pay3 (F := Ideal) x w (View.ld k r0_2) (View.ld v r0_2) (ix2 r d)
      = att (fun c => k0_pay2 (F := Ideal) x w (ix2 r c)) (fun j c => k (ix3 0 j c)) (fun j c => v (ix3 0 j c)) ⟨d.val, by omega⟩ := by
  rw [att_head _ _ _ 0 d _ (by simp)]
  have e : score (fun c => k0_pay2 (F := Ideal) x w (ix2 r c)) (fun j c => k (ix3 0 j c)) 0
      = fun j => ∑ d : Fin 256, k0_pay2 (F := Ideal) x w (ix2 r ⟨d.val, by omega⟩) * k (ix3 0 j ⟨d.val, by omega⟩) := by
    funext j
    simp only [score, Fin.val_zero, Nat.zero_mul, Nat.zero_add]
  rw [e]
  pointwise [k0_pay3]
  rw [ofBits_ninf]
  simp only [fold_max_bot]

/-- The second head's values. -/
theorem head1 (x : Vec Ideal S1x512x1024 .f32) (w : Vec Ideal S1024x1024 .bf16) (k v : Vec Ideal S1x256x1024 .bf16) (r : Fin 512) (d : Fin 256) :
    k0_pay5 (F := Ideal) (k0_pay4 x w (View.ld k r0_3)) (View.ld v r0_3) (ix2 r d)
      = att (fun c => k0_pay2 (F := Ideal) x w (ix2 r c)) (fun j c => k (ix3 0 j c)) (fun j c => v (ix3 0 j c)) ⟨256 + d.val, by omega⟩ := by
  rw [att_head _ _ _ 1 d _ (by simp)]
  pointwise [k0_pay5, k0_pay4]
  rw [ofBits_ninf]
  rfl

/-- The third head's values. -/
theorem head2 (q : FVec Ideal S512x1024 .bf16) (k v : Vec Ideal S1x256x1024 .bf16) (r : Fin 512) (d : Fin 256) :
    k0_pay6 (F := Ideal) q (View.ld k r0_4) (View.ld v r0_4) (ix2 r d)
      = att (fun c => q (ix2 r c)) (fun j c => k (ix3 0 j c)) (fun j c => v (ix3 0 j c)) ⟨512 + d.val, by omega⟩ := by
  rw [att_head _ _ _ 2 d _ (by simp)]
  pointwise [k0_pay6]
  rw [ofBits_ninf]
  rfl

/-- The last head's exponentials over their sum, against the values. -/
theorem head3 (q : FVec Ideal S512x1024 .bf16) (k v : Vec Ideal S1x256x1024 .bf16) (r : Fin 512) (d : Fin 256) :
    Ideal.div (∑ j : Fin 256, k0_pay8 (F := Ideal) q (View.ld k r0_5) (ix2 r j) * v (ix3 0 j ⟨768 + d.val, by omega⟩))
        (∑ j : Fin 256, k0_pay7 (F := Ideal) q (View.ld k r0_5) (ix2 r j))
      = att (fun c => q (ix2 r c)) (fun j c => k (ix3 0 j c)) (fun j c => v (ix3 0 j c)) ⟨768 + d.val, by omega⟩ := by
  rw [att_head _ _ _ 3 d _ (by simp)]
  pointwise [k0_pay8, k0_pay7]
  rw [ofBits_ninf]
  rfl

/-- The end of the body: the heads side by side against the output weight, the residual and the layer norm. -/
theorem pay9_apply (x : FVec Ideal S512x1024 .f32) (h0 h1 h2 : FVec Ideal S512x256 .bf16) (q : FVec Ideal S512x1024 .bf16) (k v : Vec Ideal S1x256x1024 .bf16)
   (w : Vec Ideal S1024x1024 .bf16) (g b : Vec Ideal S1x1024 .f32) (r : Fin 512) (c : Fin 1024) :
    k0_pay9 (F := Ideal) x h0 h1 h2 (k0_pay7 q (View.ld k r0_5)) (k0_pay8 q (View.ld k r0_5)) (View.ld v r0_5) w g b (ix3 0 r c)
      = layerNorm (pre (fun i => x (ix2 r i)) (cat (fun d => h0 (ix2 r d)) (fun d => h1 (ix2 r d)) (fun d => h2 (ix2 r d))
          (fun d => Ideal.div (∑ j : Fin 256, k0_pay8 (F := Ideal) q (View.ld k r0_5) (ix2 r j) * v (ix3 0 j ⟨768 + d.val, by omega⟩))
            (∑ j : Fin 256, k0_pay7 (F := Ideal) q (View.ld k r0_5) (ix2 r j)))) w) (fun i => g (ix2 0 i)) (fun i => b (ix2 0 i)) c := by
  pointwise [k0_pay9]
  rfl
/-- The body's block of `x`, its leading axis of one entry dropped. -/
theorem pay1_apply (x : Vec Ideal S1x512x1024 .f32) (r : Fin 512) (c : Fin 1024) : k0_pay1 (F := Ideal) x (ix2 r c) = x (ix3 0 r c) := by
  pointwise [k0_pay1]

/-- What the body stores: row `r` is the row function of row `r` of its block of `x`. -/
theorem pay_apply (x : Vec Ideal S1x512x1024 .f32) (k v : Vec Ideal S1x256x1024 .bf16) (wq wo : Vec Ideal S1024x1024 .bf16) (g b : Vec Ideal S1x1024 .f32) (r : Fin 512) (c : Fin 1024) :
    k0_pay9 (F := Ideal) (k0_pay1 x) (k0_pay3 x wq (View.ld k r0_2) (View.ld v r0_2)) (k0_pay5 (k0_pay4 x wq (View.ld k r0_3)) (View.ld v r0_3))
      (k0_pay6 (k0_pay2 x wq) (View.ld k r0_4) (View.ld v r0_4)) (k0_pay7 (k0_pay2 x wq) (View.ld k r0_5)) (k0_pay8 (k0_pay2 x wq) (View.ld k r0_5)) (View.ld v r0_5) wo g b (ix3 0 r c)
      = rowK (fun i => x (ix3 0 r i)) (fun j c => k (ix3 0 j c)) (fun j c => v (ix3 0 j c)) wq wo (fun i => g (ix2 0 i)) (fun i => b (ix2 0 i)) c := by
  rw [pay9_apply, cat_eq _ _ _ _ _ (head0 x wq k v r) (head1 x wq k v r) (head2 (k0_pay2 x wq) k v r) (head3 (k0_pay2 x wq) k v r)]
  simp only [pay1_apply, pay2_apply]
  rfl

/-- The scaled queries, named once for the last two heads, are those of the first two. -/
theorem pay10_eq (x : Vec Ideal S1x512x1024 .f32) (k v : Vec Ideal S1x256x1024 .bf16) (wq wo : Vec Ideal S1024x1024 .bf16) (g b : Vec Ideal S1x1024 .f32) :
    k0_pay10 (F := Ideal) x k v wq wo g b = k0_pay2 x wq := by
  unfold k0_pay10
  rw [View.ld_unit_lit _ _ (by decide), View.ld_unit_lit _ _ (by decide)]

/-- Which block each window shows at each grid point. -/
theorem idx : ∀ t : Fin cfg0.N, win0_0.index t = ![t.val / 8, t.val % 8, 0] ∧ win0_1.index t = ![t.val / 8, 0, 0] ∧ win0_2.index t = ![t.val / 8, 0, 0]
    ∧ win0_3.index t = ![0, 0] ∧ win0_4.index t = ![0, 0] ∧ win0_5.index t = ![0, 0] ∧ win0_6.index t = ![0, 0] ∧ win0_7.index t = ![t.val / 8, t.val % 8, 0] :=
  (by decide +kernel : ∀ t : Fin grid0.N, _)

variable (m : (ℓ : Loc nD τ sig) → Buf (Elt Ideal) ℓ)

/-- The result, as a function of the arguments. -/
def G (x : Vec Ideal S8x4096x1024 .f32) (k v : Vec Ideal S8x256x1024 .bf16) (wq wo : Vec Ideal S1024x1024 .f32) (g b : Vec Ideal S1024 .f32) :
    Vec Ideal S8x4096x1024 .f32 := fun i =>
  rowK (fun c => x (ix3 (i 0) (i 1) c)) (fun j c => k (ix3 (i 0) j c)) (fun j c => v (ix3 (i 0) j c)) wq wo (fun c => g (ix1 c)) (fun c => b (ix1 c)) (i 2)

/-- The rows of `x` that grid point `t` reads. -/
theorem iblk0 (c : Dev nD) (t : Fin cfg0.N) (r : Fin 512) (k : Fin 1024) : iblk m c 0 t (ix3 0 r k)
    = m ((c : Thread nD τ).loc main_arg0) (ix3 ⟨t.val / 8, by idx_bounds; omega⟩ ⟨t.val % 8 * 512 + r.val, by omega⟩ k) := by
  blk_simp [iblk]
  entry_read
  pointwise
  blk_ext [idx t]

/-- The keys that grid point `t` reads. -/
theorem iblk1 (c : Dev nD) (t : Fin cfg0.N) (r : Fin 256) (k : Fin 1024) : iblk m c 1 t (ix3 0 r k)
    = m ((c : Thread nD τ).loc main_arg1) (ix3 ⟨t.val / 8, by idx_bounds; omega⟩ r k) := by
  blk_simp [iblk]
  entry_read
  pointwise
  blk_ext [idx t]

/-- The values that grid point `t` reads. -/
theorem iblk2 (c : Dev nD) (t : Fin cfg0.N) (r : Fin 256) (k : Fin 1024) : iblk m c 2 t (ix3 0 r k)
    = m ((c : Thread nD τ).loc main_arg2) (ix3 ⟨t.val / 8, by idx_bounds; omega⟩ r k) := by
  blk_simp [iblk]
  entry_read
  pointwise
  blk_ext [idx t]

/-- Every grid point reads the whole of the query weight. -/
theorem iblk3 (c : Dev nD) (t : Fin cfg0.N) : iblk m c 3 t = m ((c : Thread nD τ).loc main_arg3) := by
  funext j
  blk_simp [iblk]
  entry_read
  pointwise
  blk_ext [idx t]

/-- Every grid point reads the whole of the output weight. -/
theorem iblk4 (c : Dev nD) (t : Fin cfg0.N) : iblk m c 4 t = m ((c : Thread nD τ).loc main_arg4) := by
  funext j
  blk_simp [iblk]
  entry_read
  pointwise
  blk_ext [idx t]

/-- Every grid point reads the whole of `g`. -/
theorem iblk5 (c : Dev nD) (t : Fin cfg0.N) (k : Fin 1024) : iblk m c 5 t (ix2 0 k) = m ((c : Thread nD τ).loc main_arg5) (ix1 k) := by
  blk_simp [iblk]
  entry_read
  pointwise
  blk_ext [idx t]

/-- Every grid point reads the whole of `b`. -/
theorem iblk6 (c : Dev nD) (t : Fin cfg0.N) (k : Fin 1024) : iblk m c 6 t (ix2 0 k) = m ((c : Thread nD τ).loc main_arg6) (ix1 k) := by
  blk_simp [iblk]
  entry_read
  pointwise
  blk_ext [idx t]

/-- Where the output block of grid point `t` lies in the result. -/
theorem emb7 (t : Fin cfg0.N) (r : Fin 512) (k : Fin 1024) :
    ((cfg0.win 7).blk t).view.emb (ix3 0 r k) = ix3 ⟨t.val / 8, by idx_bounds; omega⟩ ⟨t.val % 8 * 512 + r.val, by omega⟩ k := by
  blk_ext [idx t]

/-- The kernel's result array after the run is the function `G` of the arguments. -/
theorem final (c : Dev nD) : (dats m 0 c).arrAt 7 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  idx_vars y
  obtain rfl : y0 = 0 := Subsingleton.elim _ _
  rw [pay10_eq]
  refine (pay_apply _ _ _ _ _ _ _ _ _).trans ?_
  simp only [iblk0 m c t, iblk1 m c t, iblk2 m c t, iblk3 m c t, iblk4 m c t, iblk5 m c t, iblk6 m c t]
  exact (congrArg (G _ _ _ _ _ _ _) (emb7 t y1 y2)).symm
end Kernel

section Reference
open Cert.MemAttnRefIdeal Cert.MemAttnRefIdeal.Gen

/-- The reference's scores, before the softmax. -/
def refS (x : FVec Ideal S8x4096x1024 .f32) (k : FVec Ideal S8x256x1024 .bf16) (wq : FVec Ideal S1024x1024 .f32) : FVec Ideal S8x4x4096x256 .f32 :=
  let D : FVec Ideal S8x4096x1024 .f32 := Host.dotGeneral dot_S8x4096x1024_S1024x1024_S8x4096x1024_2_0_01_1_n_n none x wq
  let Q : FVec Ideal S8x4096x4x256 .f32 := shapeCast _ D shapeCasts_S8x4096x1024_S8x4096x4x256
  let E : FVec Ideal S8x256x1024 .f32 := extf .f32 k bitsLt_bf16_f32
  let K : FVec Ideal S8x256x4x256 .f32 := shapeCast _ E shapeCasts_S8x256x1024_S8x256x4x256
  let S : FVec Ideal S8x4x4096x256 .f32 := Host.dotGeneral dot_S8x4096x4x256_S8x256x4x256_S8x4x4096x256_3_3_1_1_02_02 none Q K
  mulf S (broadcastInDim S8x4x4096x256 ![] bcast_S_S8x4x4096x256 (constant S_ .f32 0x3D800000#32))

/-- An array of one number per row of scores, repeated along the row. -/
def refWide (M : FVec Ideal S8x4x4096 .f32) : FVec Ideal S8x4x4096x256 .f32 :=
  broadcastInDim S8x4x4096x256 ![0, 1, 2, 3] bcast_S8x4x4096x1_S8x4x4096x256_0_1_2_3 (broadcastInDim S8x4x4096x1 ![0, 1, 2] bcast_S8x4x4096_S8x4x4096x1_0_1_2 M)

/-- The greatest score of each row, folded from minus infinity. -/
def refTop (S : FVec Ideal S8x4x4096x256 .f32) : FVec Ideal S8x4x4096 .f32 :=
  Host.reduce FloatOps.maximumf S (constant S_ .f32 0xFF800000#32) reducesTo_S8x4x4096x256_S8x4x4096_d3 h_S_

/-- The reference's maximum of each row of scores: minus infinity against the greatest score. -/
def refMax (S : FVec Ideal S8x4x4096x256 .f32) : FVec Ideal S8x4x4096 .f32 :=
  maximumf (broadcastInDim S8x4x4096 ![] bcast_S_S8x4x4096 (constant S_ .f32 0xFF800000#32)) (refTop S)

/-- The reference's exponentials of the scores over their row's maximum. -/
def refExp (S : FVec Ideal S8x4x4096x256 .f32) : FVec Ideal S8x4x4096x256 .f32 := Host.exp (subf S (refWide (refMax S)))

/-- The reference's sum of each row. -/
def refSum (P : FVec Ideal S8x4x4096x256 .f32) : FVec Ideal S8x4x4096 .f32 :=
  Host.reduceAdd P (constant S_ .f32 0x00000000#32) reducesTo_S8x4x4096x256_S8x4x4096_d3 h_S_

/-- The reference's softmax of an array of scores. -/
def refP (S : FVec Ideal S8x4x4096x256 .f32) : FVec Ideal S8x4x4096x256 .f32 := Host.divf (refExp S) (refWide (refSum (refExp S)))

/-- The reference's weighted values, head by head, from the softmax `P`. -/
def refO (P : FVec Ideal S8x4x4096x256 .f32) (v : FVec Ideal S8x256x1024 .bf16) : FVec Ideal S8x4x256x4096 .f32 :=
  let E : FVec Ideal S8x256x1024 .f32 := extf .f32 v bitsLt_bf16_f32
  let V : FVec Ideal S8x256x4x256 .f32 := shapeCast _ E shapeCasts_S8x256x1024_S8x256x4x256
  Host.dotGeneral dot_S8x256x4x256_S8x4x4096x256_S8x4x256x4096_1_3_3_2_02_01 none V P

/-- The heads side by side. -/
def refR (O : FVec Ideal S8x4x256x4096 .f32) : FVec Ideal S8x4096x1024 .f32 :=
  let T : FVec Ideal S8x4096x4x256 .f32 := transpose S8x4096x4x256 [0, 3, 1, 2] O transposes_S8x4x256x4096_S8x4096x4x256_0_3_1_2
  shapeCast _ T shapeCasts_S8x4096x4x256_S8x4096x1024

/-- The reference's array before the layer norm, from the heads' values `R`. -/
def refY (x : FVec Ideal S8x4096x1024 .f32) (R : FVec Ideal S8x4096x1024 .f32) (wo : FVec Ideal S1024x1024 .f32) : FVec Ideal S8x4096x1024 .f32 :=
  addf (mulf (broadcastInDim S8x4096x1024 ![] bcast_S_S8x4096x1024 (constant S_ .f32 0x3FB504F3#32)) x)
    (Host.dotGeneral dot_S8x4096x1024_S1024x1024_S8x4096x1024_2_0_01_1_n_n none R wo)

/-- One entry of the reference's scores. -/
theorem refS_apply (x : FVec Ideal S8x4096x1024 .f32) (k : FVec Ideal S8x256x1024 .bf16) (wq : FVec Ideal S1024x1024 .f32) (n : Fin 8) (h : Fin 4) (r : Fin 4096) (j : Fin 256) :
    refS x k wq (ix4 n h r j) = scoreR (fun c => x (ix3 n r c)) (fun j c => k (ix3 n j c)) wq h j := by
  pointwise [refS, scoreR]

/-- Every entry of the row is the row's number. -/
theorem refWide_apply (M : FVec Ideal S8x4x4096 .f32) (n : Fin 8) (h : Fin 4) (r : Fin 4096) (j : Fin 256) :
    refWide M (ix4 n h r j) = M (ix3 n h r) := by
  pointwise [refWide]

/-- The maximum of two arrays, one entry. -/
theorem maximumf_apply (A B : FVec Ideal S8x4x4096 .f32) (n : Fin 8) (h : Fin 4) (r : Fin 4096) :
    maximumf A B (ix3 n h r) = max (A (ix3 n h r)) (B (ix3 n h r)) := by
  pointwise

/-- The row's maximum, against minus infinity. -/
theorem refMax_max (S : FVec Ideal S8x4x4096x256 .f32) (n : Fin 8) (h : Fin 4) (r : Fin 4096) :
    refMax S (ix3 n h r) = max (Ideal.ofBits .f32 0xFF800000#32) (refTop S (ix3 n h r)) :=
  maximumf_apply (broadcastInDim S8x4x4096 ![] bcast_S_S8x4x4096 (constant S_ .f32 0xFF800000#32)) _ n h r

/-- The greatest score of a row as a fold. -/
theorem refTop_fold (S : FVec Ideal S8x4x4096x256 .f32) (n : Fin 8) (h : Fin 4) (r : Fin 4096) :
    refTop S (ix3 n h r) = Finset.univ.fold max (Ideal.ofBits .f32 0xFF800000#32) (fun x => S (ix4 n h r x)) := by
  pointwise [refTop]

/-- The greatest score of a row is the supremum. -/
theorem refTop_apply (S : FVec Ideal S8x4x4096x256 .f32) (n : Fin 8) (h : Fin 4) (r : Fin 4096) :
    refTop S (ix3 n h r) = Finset.univ.sup (fun x => S (ix4 n h r x)) := by
  rw [refTop_fold, ofBits_ninf, fold_max_bot]

/-- The reference's maximum of a row is the supremum of its scores. -/
theorem refMax_apply (S : FVec Ideal S8x4x4096x256 .f32) (n : Fin 8) (h : Fin 4) (r : Fin 4096) :
    refMax S (ix3 n h r) = Finset.univ.sup fun x => S (ix4 n h r x) := by
  rw [refMax_max, refTop_apply, ofBits_ninf]
  exact max_eq_right bot_le

/-- The sum of a row. -/
theorem refSum_apply (P : FVec Ideal S8x4x4096x256 .f32) (n : Fin 8) (h : Fin 4) (r : Fin 4096) :
    refSum P (ix3 n h r) = ∑ x, P (ix4 n h r x) := by
  pointwise [refSum]

/-- One exponential. -/
theorem refExp_apply (S : FVec Ideal S8x4x4096x256 .f32) (n : Fin 8) (h : Fin 4) (r : Fin 4096) (j : Fin 256) :
    refExp S (ix4 n h r j) = Ideal.exp (S (ix4 n h r j) - Finset.univ.sup fun x => S (ix4 n h r x)) := by
  show Ideal.exp (S (ix4 n h r j) - refWide (refMax S) (ix4 n h r j)) = _
  rw [refWide_apply, refMax_apply]

/-- One entry of the softmax. -/
theorem refP_apply (S : FVec Ideal S8x4x4096x256 .f32) (n : Fin 8) (h : Fin 4) (r : Fin 4096) (j : Fin 256) :
    refP S (ix4 n h r j) = Ideal.div (Ideal.exp (S (ix4 n h r j) - Finset.univ.sup fun x => S (ix4 n h r x)))
      (∑ i, Ideal.exp (S (ix4 n h r i) - Finset.univ.sup fun x => S (ix4 n h r x))) := by
  show Ideal.div (refExp S (ix4 n h r j)) (refWide (refSum (refExp S)) (ix4 n h r j)) = _
  rw [refWide_apply, refSum_apply]
  simp only [refExp_apply]

/-- One entry of the reference's array before the layer norm. -/
theorem refY_apply (x : FVec Ideal S8x4096x1024 .f32) (R : FVec Ideal S8x4096x1024 .f32) (wo : FVec Ideal S1024x1024 .f32) (n : Fin 8) (r : Fin 4096) (c : Fin 1024) :
    refY x R wo (ix3 n r c) = pre (fun c => x (ix3 n r c)) (fun c => R (ix3 n r c)) wo c := by
  pointwise [refY]
  rfl

/-- Column `c` belongs to head `c / 256`. -/
theorem refR_apply (O : FVec Ideal S8x4x256x4096 .f32) (n : Fin 8) (r : Fin 4096) (c : Fin 1024) :
    refR O (ix3 n r c) = O (ix4 n ⟨c.val / 256, by omega⟩ ⟨c.val % 256, by omega⟩ r) := by
  pointwise [refR]

/-- One entry of the reference's weighted values. -/
theorem refO_apply (P : FVec Ideal S8x4x4096x256 .f32) (v : FVec Ideal S8x256x1024 .bf16) (n : Fin 8) (h : Fin 4) (d : Fin 256) (r : Fin 4096) :
    refO P v (ix4 n h d r) = ∑ j : Fin 256, v (ix3 n j ⟨h.val * 256 + d.val, by omega⟩) * P (ix4 n h r j) := by
  pointwise [refO]

/-- The reference's result, in stages. -/
theorem res_eq (m : (ℓ : Loc nD τ sig) → Buf (Elt Ideal) ℓ) (d : Dev nD) :
    Cert.MemAttnRefIdeal.Value.res_main_v50 (F := Ideal) m d
      = refNorm3 (refY (m ((d.tc : Thread nD τ).loc main_arg0))
            (refR (refO (refP (refS (m ((d.tc : Thread nD τ).loc main_arg0)) (m ((d.tc : Thread nD τ).loc main_arg1)) (m ((d.tc : Thread nD τ).loc main_arg3))))
            (m ((d.tc : Thread nD τ).loc main_arg2)))) (m ((d.tc : Thread nD τ).loc main_arg4)))
          (m ((d.tc : Thread nD τ).loc main_arg5)) (m ((d.tc : Thread nD τ).loc main_arg6)) := by
  unfold Cert.MemAttnRefIdeal.Value.res_main_v50 refNorm3 refY refR refO refP refSum refExp refMax refTop refWide refS
  rfl

/-- The reference's heads side by side, one entry. -/
theorem heads_apply (x : FVec Ideal S8x4096x1024 .f32) (k v : FVec Ideal S8x256x1024 .bf16) (wq : FVec Ideal S1024x1024 .f32) (n : Fin 8) (r : Fin 4096) (c : Fin 1024) :
    refR (refO (refP (refS x k wq)) v) (ix3 n r c) = attR (fun c => x (ix3 n r c)) (fun j c => k (ix3 n j c)) (fun j c => v (ix3 n j c)) wq c := by
  rw [refR_apply, refO_apply, attR]
  have e : (⟨c.val / 256 * 256 + c.val % 256, by omega⟩ : Fin 1024) = c := Fin.ext (by simp only; omega)
  simp only [refP_apply, refS_apply, e]

/-- The reference's result is the function `G` of the arguments, when the keys and the query weights are real. -/
theorem res_G (m : (ℓ : Loc nD τ sig) → Buf (Elt Ideal) ℓ) (d : Dev nD)
    (hk : ∀ i, IsReal (m ((d.tc : Thread nD τ).loc main_arg1) i)) (hw : ∀ i, IsReal (m ((d.tc : Thread nD τ).loc main_arg3) i)) :
    Cert.MemAttnRefIdeal.Value.res_main_v50 (F := Ideal) m d
      = G (m ((d.tc : Thread nD τ).loc main_arg0)) (m ((d.tc : Thread nD τ).loc main_arg1)) (m ((d.tc : Thread nD τ).loc main_arg2))
          (m ((d.tc : Thread nD τ).loc main_arg3)) (m ((d.tc : Thread nD τ).loc main_arg4)) (m ((d.tc : Thread nD τ).loc main_arg5)) (m ((d.tc : Thread nD τ).loc main_arg6)) := by
  rw [res_eq]
  funext i
  idx_vars i
  refine (refNorm3_apply _ _ _ _ _ _).trans ?_
  simp only [refY_apply, heads_apply]
  exact (row_eq _ _ _ _ _ _ _ (fun j c => hk _) hw _).symm
end Reference

/-- Kernel and reference, run from the same arguments over the extended reals, leave the same result. -/
theorem algebraic : Cert.algebraic_MemAttnIdeal_MemAttnRefIdeal_pre_finite_memory (hPre_finite_memory := finite_memory_facts) := by
  have := finite_memory_facts
  pair_intro
  · run_from Cert.MemAttnIdeal.Gen.run_main m g
  · run_from Cert.MemAttnRefIdeal.Value.run m' g'
    obtain ⟨h0, h1, h2, h3, h4, h5, h6⟩ := hagree c
    obtain ⟨hk, hw⟩ := finite_memory_real _ _ _ _ _ _ _ (hpre c)
    rw [res_G m' c (by rw [h1]; exact hk) (by rw [h3]; exact hw), h0, h1, h2, h3, h4, h5, h6]
    exact (final m c).symm

end Cert.Proof.MemAttn
-- ==== Proof.Rope.lean ====
module

public import proofs.«01_k».proof.Proof.Gen.RopeIdeal.Frame
public import proofs.«01_k».proof.Proof.Gen.RopeRefIdeal.Run
public import Idealize.ShloMosaic.Lib.Pointwise
public import Idealize.ShloMosaic.Lib.Pipeline.ValueKit
public import proofs.«01_k».proof.Defs

@[expose] public section

/-!
The rotary tables: the kernel's cosines and sines are the reference's over the extended reals.
-/

set_option maxRecDepth 16384
set_option maxHeartbeats 4000000

noncomputable section

namespace Cert.Proof.Rope

open Idealize.ShloMosaic Idealize.ShloMosaic.TcCoe Idealize.SL.Sem
open Idealize.ShloMosaic.Pipeline (Dat)

section Kernel
open Cert.RopeIdeal Cert.RopeIdeal.Gen

/-- The rotation's frequencies. -/
def freq : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The frequencies four times over, as one row. -/
def freqRow (f : FVec Ideal S32 .f32) : FVec Ideal S1x128 .f32 :=
  broadcastInDim S1x128 ![1] bcast_S128_S1x128_1 (shapeCast S128 (broadcastInDim S4x32 ![0, 1] bcast_S1x32_S4x32_0_1 (shapeCast S1x32 f shapeCasts_S32_S1x32)) shapeCasts_S4x32_S128)

/-- The positions, each repeated along its 32 columns. -/
def posRows (p : IVec S8x4096 32) : IVec S8192x128 32 :=
  shapeCast S8192x128 (broadcastInDim S8192x4x32 ![0, 1] bcast_S8192x4_S8192x4x32_0_1 (shapeCast S8192x4 p shapeCasts_S8x4096_S8192x4)) shapeCasts_S8192x4x32_S8192x128

variable (m : (ℓ : Loc nD τ sig) → Buf (Elt Ideal) ℓ)

/-- The row of frequencies as the call finds it. -/
theorem V9 (c : Dev nD) : V m c main_v9 = freqRow freq := rfl

/-- The positions as the call finds them. -/
theorem V12 (c : Dev nD) : V m c main_v12 = posRows (m ((c : Thread nD τ).loc main_arg0)) := rfl

/-- The one grid point's windows all show their whole arrays. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The row of frequencies at an entry. -/
theorem freqRow_apply (f : FVec Ideal S32 .f32) (k : Fin 128) : (freqRow f (ix2 0 k) : EReal) = f (ix1 ⟨k.val % 32, by omega⟩) := by
  pointwise [freqRow]

/-- The repeated positions at an entry. -/
theorem posRows_apply (p : IVec S8x4096 32) (r : Fin 8192) (k : Fin 128) :
    posRows p (ix2 r k) = p (ix2 ⟨r.val / 1024, by omega⟩ ⟨r.val % 1024 * 4 + k.val / 32, by omega⟩) := by
  pointwise [posRows]

/-- A table's angle: the position times the frequency. -/
def ang (p : IVec S8x4096 32) (f : FVec Ideal S32 .f32) (r : Fin 8192) (k : Fin 128) : EReal :=
  (FloatOps.sitofp (F := Ideal) .f32 (p (ix2 ⟨r.val / 1024, by omega⟩ ⟨r.val % 1024 * 4 + k.val / 32, by omega⟩)) : EReal) * f (ix1 ⟨k.val % 32, by omega⟩)

/-- The table of cosines. -/
def Gcos (p : IVec S8x4096 32) (f : FVec Ideal S32 .f32) : Vec Ideal S8192x128 .f32 := fun i => Ideal.cos (ang p f (i 0) (i 1))

/-- The table of sines. -/
def Gsin (p : IVec S8x4096 32) (f : FVec Ideal S32 .f32) : Vec Ideal S8192x128 .f32 := fun i => Ideal.sin (ang p f (i 0) (i 1))

/-- The positions the grid point reads. -/
theorem iblk0 (c : Dev nD) (t : Fin cfg0.N) (r : Fin 8192) (k : Fin 128) : iblk m c 0 t (ix2 r k) = posRows (m ((c : Thread nD τ).loc main_arg0)) (ix2 r k) := by
  blk_simp [iblk]
  rw [V12]
  blk_ext [idx t]

/-- The frequencies the grid point reads. -/
theorem iblk1 (c : Dev nD) (t : Fin cfg0.N) (k : Fin 128) : iblk m c 1 t (ix2 0 k) = (freqRow freq (ix2 0 k) : EReal) := by
  blk_simp [iblk]
  rw [V9]
  blk_ext [idx t]

/-- Where the grid point's block lies in the table of cosines. -/
theorem emb2 (t : Fin cfg0.N) (r : Fin 8192) (k : Fin 128) : ((cfg0.win 2).blk t).view.emb (ix2 r k) = ix2 r k := by
  blk_ext [idx t]

/-- The cosines of a grid point, at an entry. -/
theorem pay2_apply (p : Vec Ideal S8192x128 .i32) (f : Vec Ideal S1x128 .f32) (r : Fin 8192) (k : Fin 128) :
    (k0_pay2 p f (ix2 r k) : EReal) = Ideal.cos ((FloatOps.sitofp (F := Ideal) .f32 (p (ix2 r k)) : EReal) * f (ix2 0 k)) := by
  pointwise [k0_pay2, k0_pay1]

/-- The cosines the kernel leaves. -/
theorem final2 (c : Dev nD) : (dats m 0 c).arrAt 2 (cfgs 0).N = Gcos (m ((c : Thread nD τ).loc main_arg0)) freq := by
  refine (dats m 0 c).arrAt_eq_of_covers 2 _ (by decide +kernel) fun t hf y => ?_
  blk_simp
  rw [after0_2]
  frame_out
  idx_vars y
  refine Eq.trans ?_ (congrArg (Gcos _ _) (emb2 t y0 y1)).symm
  refine (pay2_apply _ _ _ _).trans ?_
  rw [iblk0, iblk1, posRows_apply, freqRow_apply]
  rfl

/-- Where the grid point's block lies in the table of sines. -/
theorem emb3 (t : Fin cfg0.N) (r : Fin 8192) (k : Fin 128) : ((cfg0.win 3).blk t).view.emb (ix2 r k) = ix2 r k := by
  blk_ext [idx t]

/-- The sines of a grid point, at an entry. -/
theorem pay3_apply (p : Vec Ideal S8192x128 .i32) (f : Vec Ideal S1x128 .f32) (r : Fin 8192) (k : Fin 128) :
    (k0_pay3 p f (ix2 r k) : EReal) = Ideal.sin ((FloatOps.sitofp (F := Ideal) .f32 (p (ix2 r k)) : EReal) * f (ix2 0 k)) := by
  pointwise [k0_pay3, k0_pay1]

/-- The sines the kernel leaves. -/
theorem final3 (c : Dev nD) : (dats m 0 c).arrAt 3 (cfgs 0).N = Gsin (m ((c : Thread nD τ).loc main_arg0)) freq := by
  refine (dats m 0 c).arrAt_eq_of_covers 3 _ (by decide +kernel) fun t hf y => ?_
  blk_simp
  rw [after0_3]
  frame_out
  idx_vars y
  refine Eq.trans ?_ (congrArg (Gsin _ _) (emb3 t y0 y1)).symm
  refine (pay3_apply _ _ _ _).trans ?_
  rw [iblk0, iblk1, posRows_apply, freqRow_apply]
  rfl

end Kernel

section Reference
open Cert.RopeRefIdeal Cert.RopeRefIdeal.Gen

/-- The reference's angles. -/
def refAng (p : IVec S8x4096 32) (f : FVec Ideal S32 .f32) : FVec Ideal S8x4096x32 .f32 :=
  mulf (broadcastInDim S8x4096x32 ![0, 1, 2] bcast_S8x4096x1_S8x4096x32_0_1_2 (broadcastInDim S8x4096x1 ![0, 1] bcast_S8x4096_S8x4096x1_0_1 (sitofp .f32 p)))
    (broadcastInDim S8x4096x32 ![0, 1, 2] bcast_S1x1x32_S8x4096x32_0_1_2 (broadcastInDim S1x1x32 ![2] bcast_S32_S1x1x32_2 f))

/-- The reference's table of cosines. -/
theorem ref_cos (p : IVec S8x4096 32) (f : FVec Ideal S32 .f32) :
    (shapeCast S8192x128 (Host.cos (refAng p f) : FVec Ideal S8x4096x32 .f32) shapeCasts_S8x4096x32_S8192x128 : FVec Ideal S8192x128 .f32) = Gcos p f := by
  funext i
  idx_vars i
  pointwise [refAng, Gcos, ang]

/-- The reference's table of sines. -/
theorem ref_sin (p : IVec S8x4096 32) (f : FVec Ideal S32 .f32) :
    (shapeCast S8192x128 (Host.sin (refAng p f) : FVec Ideal S8x4096x32 .f32) shapeCasts_S8x4096x32_S8192x128 : FVec Ideal S8192x128 .f32) = Gsin p f := by
  funext i
  idx_vars i
  pointwise [refAng, Gsin, ang]

end Reference

/-- Kernel and reference, run from the same positions over the extended reals, leave the same two tables. -/
theorem algebraic : Cert.algebraic_RopeIdeal_RopeRefIdeal := by
  pair_intro
  · run_from Cert.RopeIdeal.Gen.run_main m g
  · run_from Cert.RopeRefIdeal.Value.run m' g'
    · refine Eq.trans ?_ (final2 m c).symm
      exact ref_cos _ _
    · refine Eq.trans ?_ (final3 m c).symm
      exact ref_sin _ _

end Cert.Proof.Rope
-- ==== Proof.MixLayout.lean ====
module

public import proofs.«01_k».proof.Proof.Gen.MixIdeal.Frame
public import Idealize.ShloMosaic.Lib.Pointwise
public import Idealize.ShloMosaic.Lib.Pipeline.ValueKit

@[expose] public section

/-!
The call that projects the layer's input: the blocks its grid points read, and the values its query, key and value results take.
-/

set_option maxRecDepth 16384
set_option maxHeartbeats 4000000
noncomputable section
namespace Cert.Proof.Mix
open Idealize.ShloMosaic Idealize.ShloMosaic.TcCoe Idealize.SL.Sem
open Idealize.ShloMosaic.Pipeline (Dat)
open Cert.MixIdeal Cert.MixIdeal.Gen

/-- Which block each window shows at each grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_6.index t = ![0, 0] ∧ win0_7.index t = ![0, 0]
    ∧ win0_8.index t = ![0, 0] ∧ win0_9.index t = ![0, 0] ∧ win0_11.index t = ![t.val / 8, t.val % 8, 0]
    ∧ win0_12.index t = ![t.val / 8, t.val % 8, 0] ∧ win0_13.index t = ![t.val / 8, t.val % 8, 0] :=
  (by decide +kernel : ∀ t : Fin grid0.N, _)

variable (m : (ℓ : Loc nD τ sig) → Buf (Elt Ideal) ℓ)

/-- A grid point's rows of the layer's input. -/
theorem iblk0 (c : Dev nD) (t : Fin cfg0.N) (r : Fin 512) (k : Fin 1024) : iblk m c 0 t (ix3 0 r k)
    = m ((c : Thread nD τ).loc main_arg0) (ix3 ⟨t.val / 8, by idx_bounds; omega⟩ ⟨512 * (t.val % 8) + r.val, by omega⟩ k) := by
  blk_simp [iblk]
  entry_read
  pointwise
  blk_ext [idx t]

/-- The first rotary table. -/
def tabA (co si : FVec Ideal S8x4096x32 .f32) : FVec Ideal S8x4096x128 .f32 :=
  concatenate S8x4096x128 2 [⟨S8x4096x32, co⟩, ⟨S8x4096x32, co⟩, ⟨S8x4096x32, (Host.negf si : FVec Ideal S8x4096x32 .f32)⟩, ⟨S8x4096x32, si⟩] concatenates_S8x4096x32_S8x4096x32_S8x4096x32_S8x4096x32_S8x4096x128_d2

/-- The second rotary table. -/
def tabB (co si : FVec Ideal S8x4096x32 .f32) : FVec Ideal S8x4096x128 .f32 :=
  concatenate S8x4096x128 2 [⟨S8x4096x32, (Host.negf si : FVec Ideal S8x4096x32 .f32)⟩, ⟨S8x4096x32, si⟩, ⟨S8x4096x32, co⟩, ⟨S8x4096x32, co⟩] concatenates_S8x4096x32_S8x4096x32_S8x4096x32_S8x4096x32_S8x4096x128_d2

/-- The rotary key's weight columns. -/
def peW (w : FVec Ideal S1024x704 .f32) : FVec Ideal S1024x64 .f32 := extractStridedSlice S1024x64 ![0, 640] w slices_S1024x704_S1024x64_0_640

/-- The same with its halves swapped. -/
def peSw (w : FVec Ideal S1024x704 .f32) : FVec Ideal S1024x64 .f32 :=
  concatenate S1024x64 1 [⟨S1024x32, (extractStridedSlice S1024x32 ![0, 32] (peW w) slices_S1024x64_S1024x32_0_32 : FVec Ideal S1024x32 .f32)⟩,
    ⟨S1024x32, (extractStridedSlice S1024x32 ![0, 0] (peW w) slices_S1024x64_S1024x32_0_0 : FVec Ideal S1024x32 .f32)⟩] concatenates_S1024x32_S1024x32_S1024x64_d1

/-- The input weight, as the call lays its columns out. -/
def inW (w : FVec Ideal S1024x704 .f32) : FVec Ideal S1024x896 .bf16 :=
  truncf .bf16 (concatenate S1024x896 1 [⟨S1024x640, (extractStridedSlice S1024x640 ![0, 0] w slices_S1024x704_S1024x640_0_0 : FVec Ideal S1024x640 .f32)⟩,
    ⟨S1024x64, peW w⟩, ⟨S1024x64, peSw w⟩, ⟨S1024x64, peSw w⟩, ⟨S1024x64, peW w⟩] concatenates_S1024x640_S1024x64_S1024x64_S1024x64_S1024x64_S1024x896_d1 : FVec Ideal S1024x896 .f32) bitsLt_bf16_f32

/-- The queries' weight by heads. -/
def hdW (w : FVec Ideal S256x1152 .f32) : FVec Ideal S256x6x192 .f32 := shapeCast S256x6x192 w shapeCasts_S256x1152_S256x6x192

/-- Its rotary columns. -/
def hdR (w : FVec Ideal S256x1152 .f32) : FVec Ideal S256x6x64 .f32 := extractStridedSlice S256x6x64 ![0, 0, 128] (hdW w) slices_S256x6x192_S256x6x64_0_0_128

/-- These with their halves swapped. -/
def hdSw (w : FVec Ideal S256x1152 .f32) : FVec Ideal S256x6x64 .f32 :=
  concatenate S256x6x64 2 [⟨S256x6x32, (extractStridedSlice S256x6x32 ![0, 0, 32] (hdR w) slices_S256x6x64_S256x6x32_0_0_32 : FVec Ideal S256x6x32 .f32)⟩,
    ⟨S256x6x32, (extractStridedSlice S256x6x32 ![0, 0, 0] (hdR w) slices_S256x6x64_S256x6x32_0_0_0 : FVec Ideal S256x6x32 .f32)⟩] concatenates_S256x6x32_S256x6x32_S256x6x64_d2

/-- The queries' weight, as the call lays its columns out. -/
def uqW (w : FVec Ideal S256x1152 .f32) : FVec Ideal S256x1536 .bf16 :=
  truncf .bf16 (shapeCast S256x1536 (concatenate S256x6x256 2 [⟨S256x6x128, (extractStridedSlice S256x6x128 ![0, 0, 0] (hdW w) slices_S256x6x192_S256x6x128_0_0_0 : FVec Ideal S256x6x128 .f32)⟩,
    ⟨S256x6x64, hdR w⟩, ⟨S256x6x64, hdSw w⟩] concatenates_S256x6x128_S256x6x64_S256x6x64_S256x6x256_d2 : FVec Ideal S256x6x256 .f32) shapeCasts_S256x6x256_S256x1536) bitsLt_bf16_f32

/-- The first table as the call finds it. -/
theorem V1 (c : Dev nD) : V m c main_v1 = tabA (m ((c : Thread nD τ).loc main_arg1)) (m ((c : Thread nD τ).loc main_arg2)) := rfl
/-- The second table as the call finds it. -/
theorem V3 (c : Dev nD) : V m c main_v3 = tabB (m ((c : Thread nD τ).loc main_arg1)) (m ((c : Thread nD τ).loc main_arg2)) := rfl
/-- The input weight as the call finds it. -/
theorem V10 (c : Dev nD) : V m c main_v10 = inW (m ((c : Thread nD τ).loc main_arg3)) := rfl
/-- The queries' weight as the call finds it. -/
theorem V34 (c : Dev nD) : V m c main_v34 = uqW (m ((c : Thread nD τ).loc main_arg7)) := rfl
/-- The queries' scale as the call finds it. -/
theorem V25 (c : Dev nD) : V m c main_v25 = broadcastInDim S1x256 ![1] bcast_S256_S1x256_1 (m ((c : Thread nD τ).loc main_arg6)) := rfl
/-- The keys' scale as the call finds it. -/
theorem V35 (c : Dev nD) : V m c main_v35 = broadcastInDim S1x128 ![1] bcast_S128_S1x128_1 (m ((c : Thread nD τ).loc main_arg8)) := rfl
/-- The keys' and values' weight as the call finds it. -/
theorem V36 (c : Dev nD) : V m c main_v36 = truncf (F := Ideal) .bf16 (m ((c : Thread nD τ).loc main_arg9) : FVec Ideal S128x1536 .f32) bitsLt_bf16_f32 := rfl

/-- A row over its root mean square, scaled entry by entry. -/
def rms {n : ℕ} (N : EReal) (f g : Fin n → EReal) (k : Fin n) : EReal :=
  f k * Ideal.rsqrt (Ideal.div (∑ j, f j * f j) N + Ideal.ofBits .f32 0x358637BD#32) * g k

/-- The input's projection at column `c`. -/
def H (x : Vec Ideal S8x4096x1024 .f32) (w : Vec Ideal S1024x704 .f32) (n : Fin 8) (s : Fin 4096) (c : ℕ) : EReal :=
  ∑ k : Fin 1024, x (ix3 n s k) * w (ix2 k (Fin.ofNat 704 c))

/-- The queries' projection at column `c`, with the scores' scale. -/
def Qv (h : ℕ → EReal) (g : Vec Ideal S256 .f32) (u : Vec Ideal S256x1152 .f32) (c : ℕ) : EReal :=
  (∑ j : Fin 256, rms (Ideal.ofBits .f32 0x43800000#32) (fun k => h (256 + k.val)) (fun k => g (ix1 k)) j * u (ix2 j (Fin.ofNat 1152 c)))
    * Ideal.ofBits .f32 0x3D93CD3A#32

/-- The keys' and values' projection at column `c`. -/
def KVv (h : ℕ → EReal) (g : Vec Ideal S128 .f32) (u : Vec Ideal S128x1536 .f32) (c : ℕ) : EReal :=
  ∑ j : Fin 128, rms (Ideal.ofBits .f32 0x43000000#32) (fun k => h (512 + k.val)) (fun k => g (ix1 k)) j * u (ix2 j (Fin.ofNat 1536 c))

/-- One row of the first rotary table. -/
def Ta (co si : Fin 32 → EReal) (d : ℕ) : EReal :=
  if d < 64 then co (Fin.ofNat 32 d) else if d < 96 then -(si (Fin.ofNat 32 d)) else si (Fin.ofNat 32 d)

/-- One row of the second rotary table. -/
def Tb (co si : Fin 32 → EReal) (d : ℕ) : EReal :=
  if d < 32 then -(si (Fin.ofNat 32 d)) else if d < 64 then si (Fin.ofNat 32 d) else co (Fin.ofNat 32 d)

/-- The column of the queries' weight that stands at column `c` of the laid-out one. -/
def colQ (c : ℕ) : ℕ := if c % 256 < 192 then c / 256 * 192 + c % 256 else c / 256 * 192 + 128 + (c % 256 - 192 + 32) % 64

/-- The column of the input weight that stands at column `c` of the laid-out one. -/
def colIn (c : ℕ) : ℕ := if c < 704 then c else if c < 832 then 640 + (c - 640 + 32) % 64 else 640 + (c - 640) % 64

/-- The query at column `c`: plain columns, and products with the first table. -/
def qAt (q ta : ℕ → EReal) (c : ℕ) : EReal := if c % 256 < 128 then q (colQ c) else q (colQ c) * ta (c % 256 - 128)

/-- The key at column `c`: plain columns, and the rotated key twice over. -/
def kAt (kv h ta tb : ℕ → EReal) (c : ℕ) : EReal :=
  if c % 256 < 128 then kv c else h (colIn (640 + (c % 256 - 128))) * ta (c % 256 - 128) + h (colIn (768 + (c % 256 - 128))) * tb (c % 256 - 128)

/-- The column of the keys' and values' projection that is column `c` of the values. -/
def colV (c : ℕ) : ℕ := c / 128 * 256 + 128 + c % 128

/-- The queries. -/
def Gq (x : Vec Ideal S8x4096x1024 .f32) (co si : Vec Ideal S8x4096x32 .f32) (w : Vec Ideal S1024x704 .f32) (g : Vec Ideal S256 .f32)
    (u : Vec Ideal S256x1152 .f32) : Vec Ideal S8x4096x1536 .bf16 := fun i =>
  qAt (Qv (H x w (i 0) (i 1)) g u) (Ta (fun k => co (ix3 (i 0) (i 1) k)) (fun k => si (ix3 (i 0) (i 1) k))) (i 2).val

/-- The keys. -/
def Gk (x : Vec Ideal S8x4096x1024 .f32) (co si : Vec Ideal S8x4096x32 .f32) (w : Vec Ideal S1024x704 .f32) (g : Vec Ideal S128 .f32)
    (u : Vec Ideal S128x1536 .f32) : Vec Ideal S8x4096x1536 .bf16 := fun i =>
  kAt (KVv (H x w (i 0) (i 1)) g u) (H x w (i 0) (i 1)) (Ta (fun k => co (ix3 (i 0) (i 1) k)) (fun k => si (ix3 (i 0) (i 1) k)))
    (Tb (fun k => co (ix3 (i 0) (i 1) k)) (fun k => si (ix3 (i 0) (i 1) k))) (i 2).val

/-- The values. -/
def Gv (x : Vec Ideal S8x4096x1024 .f32) (w : Vec Ideal S1024x704 .f32) (g : Vec Ideal S128 .f32)
    (u : Vec Ideal S128x1536 .f32) : Vec Ideal S8x4096x768 .bf16 := fun i =>
  KVv (H x w (i 0) (i 1)) g u (colV (i 2).val)

/-- The first table's first columns. -/
theorem Ta_0 (co si : Fin 32 → EReal) {d : ℕ} {a : Fin 32} (h : d < 64) (e : a.val = d % 32) : co a = Ta co si d := by
  rw [Ta, if_pos h, Fin.ext (show a.val = (Fin.ofNat 32 d).val from e)]

/-- The first table's next columns. -/
theorem Ta_1 (co si : Fin 32 → EReal) {d : ℕ} {a : Fin 32} (h : 64 ≤ d ∧ d < 96) (e : a.val = d % 32) : -(si a) = Ta co si d := by
  rw [Ta, if_neg (by omega), if_pos (by omega), Fin.ext (show a.val = (Fin.ofNat 32 d).val from e)]

/-- The first table's last columns. -/
theorem Ta_2 (co si : Fin 32 → EReal) {d : ℕ} {a : Fin 32} (h : 96 ≤ d) (e : a.val = d % 32) : si a = Ta co si d := by
  rw [Ta, if_neg (by omega), if_neg (by omega), Fin.ext (show a.val = (Fin.ofNat 32 d).val from e)]

/-- The second table's first columns. -/
theorem Tb_0 (co si : Fin 32 → EReal) {d : ℕ} {a : Fin 32} (h : d < 32) (e : a.val = d % 32) : -(si a) = Tb co si d := by
  rw [Tb, if_pos h, Fin.ext (show a.val = (Fin.ofNat 32 d).val from e)]

/-- The second table's next columns. -/
theorem Tb_1 (co si : Fin 32 → EReal) {d : ℕ} {a : Fin 32} (h : 32 ≤ d ∧ d < 64) (e : a.val = d % 32) : si a = Tb co si d := by
  rw [Tb, if_neg (by omega), if_pos (by omega), Fin.ext (show a.val = (Fin.ofNat 32 d).val from e)]

/-- The second table's last columns. -/
theorem Tb_2 (co si : Fin 32 → EReal) {d : ℕ} {a : Fin 32} (h : 64 ≤ d) (e : a.val = d % 32) : co a = Tb co si d := by
  rw [Tb, if_neg (by omega), if_neg (by omega), Fin.ext (show a.val = (Fin.ofNat 32 d).val from e)]

/-- The first table at an entry. -/
theorem tabA_apply (co si : FVec Ideal S8x4096x32 .f32) (n : Fin 8) (r : Fin 4096) (k : Fin 128) :
    tabA co si (ix3 n r k) = Ta (fun k => co (ix3 n r k)) (fun k => si (ix3 n r k)) k.val := by
  pointwise [tabA]
  split_ifs <;> first
    | exact Ta_0 (d := k.val) (fun k => co (ix3 n r k)) (fun k => si (ix3 n r k)) (by omega) (by first | omega | (dsimp only; omega))
    | exact Ta_1 (d := k.val) (fun k => co (ix3 n r k)) (fun k => si (ix3 n r k)) (by omega) (by first | omega | (dsimp only; omega))
    | exact Ta_2 (d := k.val) (fun k => co (ix3 n r k)) (fun k => si (ix3 n r k)) (by omega) (by first | omega | (dsimp only; omega))

/-- The second table at an entry. -/
theorem tabB_apply (co si : FVec Ideal S8x4096x32 .f32) (n : Fin 8) (r : Fin 4096) (k : Fin 128) :
    tabB co si (ix3 n r k) = Tb (fun k => co (ix3 n r k)) (fun k => si (ix3 n r k)) k.val := by
  pointwise [tabB]
  split_ifs <;> first
    | exact Tb_0 (d := k.val) (fun k => co (ix3 n r k)) (fun k => si (ix3 n r k)) (by omega) (by first | omega | (dsimp only; omega))
    | exact Tb_1 (d := k.val) (fun k => co (ix3 n r k)) (fun k => si (ix3 n r k)) (by omega) (by first | omega | (dsimp only; omega))
    | exact Tb_2 (d := k.val) (fun k => co (ix3 n r k)) (fun k => si (ix3 n r k)) (by omega) (by first | omega | (dsimp only; omega))

/-- The input weight laid out, at an entry. -/
theorem inW_apply (w : FVec Ideal S1024x704 .f32) (n : Fin 1024) (k : Fin 896) :
    (inW w (ix2 n k) : EReal) = w (ix2 n (Fin.ofNat 704 (colIn k.val))) := by
  have e (a : Fin 704) (h : a.val = colIn k.val % 704) : a = Fin.ofNat 704 (colIn k.val) := Fin.ext h
  pointwise [inW, peW, peSw]
  split_ifs <;> first | omega | exact congrArg (fun z => (w (ix2 n z) : EReal)) (e _ (by (try dsimp only); unfold colIn; split_ifs <;> omega))

/-- The queries' weight laid out, at an entry. -/
theorem uqW_apply (w : FVec Ideal S256x1152 .f32) (n : Fin 256) (k : Fin 1536) :
    (uqW w (ix2 n k) : EReal) = w (ix2 n (Fin.ofNat 1152 (colQ k.val))) := by
  have e (a : Fin 1152) (h : a.val = colQ k.val % 1152) : a = Fin.ofNat 1152 (colQ k.val) := Fin.ext h
  pointwise [uqW, hdW, hdR, hdSw]
  split_ifs <;> first | omega | exact congrArg (fun z => (w (ix2 n z) : EReal)) (e _ (by (try dsimp only); unfold colQ; split_ifs <;> omega))

/-- A grid point's rows of the first table. -/
theorem iblk1 (c : Dev nD) (t : Fin cfg0.N) (r : Fin 512) (k : Fin 128) : iblk m c 1 t (ix3 0 r k)
    = tabA (m ((c : Thread nD τ).loc main_arg1)) (m ((c : Thread nD τ).loc main_arg2))
      (ix3 ⟨t.val / 8, by idx_bounds; omega⟩ ⟨512 * (t.val % 8) + r.val, by omega⟩ k) := by
  blk_simp [iblk]
  rw [V1]
  blk_ext [idx t]

/-- A grid point's rows of the second table. -/
theorem iblk2 (c : Dev nD) (t : Fin cfg0.N) (r : Fin 512) (k : Fin 128) : iblk m c 2 t (ix3 0 r k)
    = tabB (m ((c : Thread nD τ).loc main_arg1)) (m ((c : Thread nD τ).loc main_arg2))
      (ix3 ⟨t.val / 8, by idx_bounds; omega⟩ ⟨512 * (t.val % 8) + r.val, by omega⟩ k) := by
  blk_simp [iblk]
  rw [V3]
  blk_ext [idx t]

/-- The input weight a grid point reads. -/
theorem iblk3 (c : Dev nD) (t : Fin cfg0.N) (r : Fin 1024) (k : Fin 896) : iblk m c 3 t (ix2 r k)
    = inW (m ((c : Thread nD τ).loc main_arg3)) (ix2 r k) := by
  blk_simp [iblk]
  rw [V10]
  blk_ext [idx t]

/-- The queries' scale a grid point reads. -/
theorem iblk6 (c : Dev nD) (t : Fin cfg0.N) (k : Fin 256) : iblk m c 6 t (ix2 0 k)
    = (m ((c : Thread nD τ).loc main_arg6) (ix1 k) : EReal) := by
  blk_simp [iblk]
  rw [V25]
  pointwise
  blk_ext [idx t]

/-- The queries' weight a grid point reads. -/
theorem iblk7 (c : Dev nD) (t : Fin cfg0.N) (r : Fin 256) (k : Fin 1536) : iblk m c 7 t (ix2 r k)
    = uqW (m ((c : Thread nD τ).loc main_arg7)) (ix2 r k) := by
  blk_simp [iblk]
  rw [V34]
  blk_ext [idx t]

/-- The keys' scale a grid point reads. -/
theorem iblk8 (c : Dev nD) (t : Fin cfg0.N) (k : Fin 128) : iblk m c 8 t (ix2 0 k)
    = (m ((c : Thread nD τ).loc main_arg8) (ix1 k) : EReal) := by
  blk_simp [iblk]
  rw [V35]
  pointwise
  blk_ext [idx t]

/-- The keys' and values' weight a grid point reads. -/
theorem iblk9 (c : Dev nD) (t : Fin cfg0.N) (r : Fin 128) (k : Fin 1536) : iblk m c 9 t (ix2 r k)
    = (m ((c : Thread nD τ).loc main_arg9) (ix2 r k) : EReal) := by
  blk_simp [iblk]
  rw [V36]
  pointwise
  blk_ext [idx t]

end Cert.Proof.Mix
-- ==== Proof.MixKernel.lean ====
module

public import proofs.«01_k».proof.Proof.MixLayout

@[expose] public section

/-!
The call that projects the layer's input: the query, key and value arrays it leaves.
-/

set_option maxRecDepth 16384
set_option maxHeartbeats 4000000

noncomputable section

namespace Cert.Proof.Mix

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- The projection of a block of rows, at an entry. -/
theorem pay6_apply (x : Vec Ideal S1x512x1024 .f32) (w : Vec Ideal S1024x896 .bf16) (r : Fin 512) (k : Fin 896) :
    (k0_pay6 x w (ix2 r k) : EReal) = ∑ j : Fin 1024, x (ix3 0 r j) * w (ix2 j k) := by
  pointwise [k0_pay6]

/-- The projection of a grid point's rows, at an entry. -/
theorem proj_apply (c : Dev nD) (t : Fin cfg0.N) (r : Fin 512) (k : Fin 896) :
    (k0_pay6 (iblk m c 0 t) (iblk m c 3 t) (ix2 r k) : EReal)
      = H (m ((c : Thread nD τ).loc main_arg0)) (m ((c : Thread nD τ).loc main_arg3)) ⟨t.val / 8, by idx_bounds; omega⟩
        ⟨512 * (t.val % 8) + r.val, by omega⟩ (colIn k.val) := by
  rw [pay6_apply]
  exact Finset.sum_congr rfl fun j _ => by rw [iblk0, iblk3, inW_apply]

/-- The queries of a block of rows from their share of the projection, at an entry. -/
theorem pay28_apply (y : FVec Ideal S512x256 .f32) (g : Vec Ideal S1x256 .f32) (u : Vec Ideal S256x1536 .bf16) (r : Fin 512) (k : Fin 1536) :
    (k0_pay28 y g u (ix2 r k) : EReal) = (∑ j : Fin 256, rms (Ideal.ofBits .f32 0x43800000#32) (fun k => y (ix2 r k)) (fun k => g (ix2 0 k)) j * u (ix2 j k))
      * Ideal.ofBits .f32 0x3D93CD3A#32 := by
  pointwise [k0_pay28]
  rfl

/-- The keys and values of a block of rows from their share of the projection, at an entry. -/
theorem pay31_apply (y : FVec Ideal S512x128 .f32) (g : Vec Ideal S1x128 .f32) (u : Vec Ideal S128x1536 .bf16) (r : Fin 512) (k : Fin 1536) :
    (k0_pay31 (k0_pay29 y g) (k0_pay30 u) (constant S512x1536 .f32 0x00000000#32) (ix2 r k) : EReal)
      = ∑ j : Fin 128, rms (Ideal.ofBits .f32 0x43000000#32) (fun k => y (ix2 r k)) (fun k => g (ix2 0 k)) j * u (ix2 j k) := by
  pointwise [k0_pay31, k0_pay29, k0_pay30]
  rfl

/-- The queries of a grid point's rows. -/
theorem queries_apply (c : Dev nD) (t : Fin cfg0.N) (r : Fin 512) (k : Fin 1536) :
    (k0_pay28 (k0_pay8 (iblk m c 0 t) (iblk m c 3 t)) (iblk m c 6 t) (iblk m c 7 t) (ix2 r k) : EReal)
      = Qv (H (m ((c : Thread nD τ).loc main_arg0)) (m ((c : Thread nD τ).loc main_arg3)) ⟨t.val / 8, by idx_bounds; omega⟩
        ⟨512 * (t.val % 8) + r.val, by omega⟩) (m ((c : Thread nD τ).loc main_arg6)) (m ((c : Thread nD τ).loc main_arg7)) (colQ k.val) := by
  have e (j : Fin 256) : (k0_pay8 (iblk m c 0 t) (iblk m c 3 t) (ix2 r j) : EReal)
      = H (m ((c : Thread nD τ).loc main_arg0)) (m ((c : Thread nD τ).loc main_arg3)) ⟨t.val / 8, by idx_bounds; omega⟩
        ⟨512 * (t.val % 8) + r.val, by omega⟩ (256 + j.val) := by
    have : (k0_pay8 (iblk m c 0 t) (iblk m c 3 t) (ix2 r j) : EReal) = k0_pay6 (iblk m c 0 t) (iblk m c 3 t) (ix2 r ⟨256 + j.val, by omega⟩) := by
      pointwise [k0_pay8]
    rw [this, proj_apply, colIn, if_pos (by dsimp only; omega)]
  rw [pay28_apply]
  simp only [e, iblk6, iblk7, uqW_apply]
  rfl

/-- The keys and values of a grid point's rows. -/
theorem kv_apply (c : Dev nD) (t : Fin cfg0.N) (r : Fin 512) (k : Fin 1536) :
    (k0_pay31 (k0_pay29 (k0_pay9 (iblk m c 0 t) (iblk m c 3 t)) (iblk m c 8 t)) (k0_pay30 (iblk m c 9 t)) (constant S512x1536 .f32 0x00000000#32) (ix2 r k) : EReal)
      = KVv (H (m ((c : Thread nD τ).loc main_arg0)) (m ((c : Thread nD τ).loc main_arg3)) ⟨t.val / 8, by idx_bounds; omega⟩
        ⟨512 * (t.val % 8) + r.val, by omega⟩) (m ((c : Thread nD τ).loc main_arg8)) (m ((c : Thread nD τ).loc main_arg9)) k.val := by
  have e (j : Fin 128) : (k0_pay9 (iblk m c 0 t) (iblk m c 3 t) (ix2 r j) : EReal)
      = H (m ((c : Thread nD τ).loc main_arg0)) (m ((c : Thread nD τ).loc main_arg3)) ⟨t.val / 8, by idx_bounds; omega⟩
        ⟨512 * (t.val % 8) + r.val, by omega⟩ (512 + j.val) := by
    have : (k0_pay9 (iblk m c 0 t) (iblk m c 3 t) (ix2 r j) : EReal) = k0_pay6 (iblk m c 0 t) (iblk m c 3 t) (ix2 r ⟨512 + j.val, by omega⟩) := by
      pointwise [k0_pay9]
    rw [this, proj_apply, colIn, if_pos (by dsimp only; omega)]
  have f : k = Fin.ofNat 1536 k.val := Fin.ext (Nat.mod_eq_of_lt k.isLt).symm
  rw [pay31_apply]
  simp only [e, iblk8, iblk9]
  unfold KVv
  rw [← f]

/-- The first table's rows at a grid point. -/
theorem ta_apply (c : Dev nD) (t : Fin cfg0.N) (r : Fin 512) (k : Fin 128) : (k0_pay26 (iblk m c 1 t) (ix2 r k) : EReal)
    = Ta (fun k => m ((c : Thread nD τ).loc main_arg1) (ix3 ⟨t.val / 8, by idx_bounds; omega⟩ ⟨512 * (t.val % 8) + r.val, by omega⟩ k))
      (fun k => m ((c : Thread nD τ).loc main_arg2) (ix3 ⟨t.val / 8, by idx_bounds; omega⟩ ⟨512 * (t.val % 8) + r.val, by omega⟩ k)) k.val := by
  have : (k0_pay26 (iblk m c 1 t) (ix2 r k) : EReal) = iblk m c 1 t (ix3 0 r k) := by
    pointwise [k0_pay26]
  rw [this, iblk1, tabA_apply]

/-- The second table's rows at a grid point. -/
theorem tb_apply (c : Dev nD) (t : Fin cfg0.N) (r : Fin 512) (k : Fin 128) : (k0_pay27 (iblk m c 2 t) (ix2 r k) : EReal)
    = Tb (fun k => m ((c : Thread nD τ).loc main_arg1) (ix3 ⟨t.val / 8, by idx_bounds; omega⟩ ⟨512 * (t.val % 8) + r.val, by omega⟩ k))
      (fun k => m ((c : Thread nD τ).loc main_arg2) (ix3 ⟨t.val / 8, by idx_bounds; omega⟩ ⟨512 * (t.val % 8) + r.val, by omega⟩ k)) k.val := by
  have : (k0_pay27 (iblk m c 2 t) (ix2 r k) : EReal) = iblk m c 2 t (ix3 0 r k) := by
    pointwise [k0_pay27]
  rw [this, iblk2, tabB_apply]

/-- The rotated keys of a grid point's rows. -/
theorem rot_apply (c : Dev nD) (t : Fin cfg0.N) (r : Fin 512) (k : Fin 128) :
    (k0_pay32 (k0_pay10 (iblk m c 0 t) (iblk m c 3 t)) (k0_pay11 (iblk m c 0 t) (iblk m c 3 t)) (k0_pay26 (iblk m c 1 t)) (k0_pay27 (iblk m c 2 t)) (ix2 r k) : EReal)
      = H (m ((c : Thread nD τ).loc main_arg0)) (m ((c : Thread nD τ).loc main_arg3)) ⟨t.val / 8, by idx_bounds; omega⟩ ⟨512 * (t.val % 8) + r.val, by omega⟩ (colIn (640 + k.val))
        * Ta (fun k => m ((c : Thread nD τ).loc main_arg1) (ix3 ⟨t.val / 8, by idx_bounds; omega⟩ ⟨512 * (t.val % 8) + r.val, by omega⟩ k))
          (fun k => m ((c : Thread nD τ).loc main_arg2) (ix3 ⟨t.val / 8, by idx_bounds; omega⟩ ⟨512 * (t.val % 8) + r.val, by omega⟩ k)) k.val
        + H (m ((c : Thread nD τ).loc main_arg0)) (m ((c : Thread nD τ).loc main_arg3)) ⟨t.val / 8, by idx_bounds; omega⟩ ⟨512 * (t.val % 8) + r.val, by omega⟩ (colIn (768 + k.val))
        * Tb (fun k => m ((c : Thread nD τ).loc main_arg1) (ix3 ⟨t.val / 8, by idx_bounds; omega⟩ ⟨512 * (t.val % 8) + r.val, by omega⟩ k))
          (fun k => m ((c : Thread nD τ).loc main_arg2) (ix3 ⟨t.val / 8, by idx_bounds; omega⟩ ⟨512 * (t.val % 8) + r.val, by omega⟩ k)) k.val := by
  have e : (k0_pay32 (k0_pay10 (iblk m c 0 t) (iblk m c 3 t)) (k0_pay11 (iblk m c 0 t) (iblk m c 3 t)) (k0_pay26 (iblk m c 1 t)) (k0_pay27 (iblk m c 2 t)) (ix2 r k) : EReal)
      = (k0_pay6 (iblk m c 0 t) (iblk m c 3 t) (ix2 r ⟨640 + k.val, by omega⟩) : EReal) * k0_pay26 (iblk m c 1 t) (ix2 r k)
        + (k0_pay6 (iblk m c 0 t) (iblk m c 3 t) (ix2 r ⟨768 + k.val, by omega⟩) : EReal) * k0_pay27 (iblk m c 2 t) (ix2 r k) := by
    pointwise [k0_pay32, k0_pay10, k0_pay11]
  rw [e, proj_apply, proj_apply, ta_apply, tb_apply]

/-- A block's query at column `c`, from its projection and its rows of the first table. -/
def qTile (P : FVec Ideal S512x1536 .f32) (T : FVec Ideal S512x128 .f32) (r : Fin 512) (c : Fin 1536) : EReal :=
  if c.val % 256 < 128 then P (ix2 r c) else P (ix2 r c) * T (ix2 r ⟨c.val % 256 - 128, by omega⟩)

/-- A plain column of a block's queries. -/
theorem qTile_lo (P : FVec Ideal S512x1536 .f32) (T : FVec Ideal S512x128 .f32) {r : Fin 512} {c k : Fin 1536} (h : c.val % 256 < 128)
    (e : k.val = c.val) : P (ix2 r k) = qTile P T r c := by
  rw [qTile, if_pos h, Fin.ext e]

/-- A rotated column of a block's queries. -/
theorem qTile_hi (P : FVec Ideal S512x1536 .f32) (T : FVec Ideal S512x128 .f32) {r : Fin 512} {c k : Fin 1536} {d : Fin 128} (h : 128 ≤ c.val % 256)
    (e : k.val = c.val) (e' : d.val = c.val % 256 - 128) : (P (ix2 r k) : EReal) * T (ix2 r d) = qTile P T r c := by
  rw [qTile, if_neg (by omega), Fin.ext e, Fin.ext (show d.val = (⟨c.val % 256 - 128, by omega⟩ : Fin 128).val from e')]

/-- The query block a grid point leaves. -/
theorem tileQ (c : Dev nD) (t : Fin cfg0.N) (y0 : Fin 1) (y1 : Fin 512) (y2 : Fin 1536) :
    ((outsAt0 m c t.val t.isLt).2.1 (ix3 y0 y1 y2) : EReal)
      = qTile (k0_pay28 (k0_pay8 (iblk m c 0 t) (iblk m c 3 t)) (iblk m c 6 t) (iblk m c 7 t)) (k0_pay26 (iblk m c 1 t)) y1 y2 := by
  by_cases ht : t.val % 8 = 0
  · rw [outsAt0_A m c t ht]
    frame_out
    generalize k0_pay28 (k0_pay8 (iblk m c 0 t) (iblk m c 3 t)) (iblk m c 6 t) (iblk m c 7 t) = P
    generalize k0_pay26 (iblk m c 1 t) = T
    canon_tiles x h
    all_goals
      idx_vars x
      obtain rfl : y1 = x1 := Fin.ext h1
      pointwise [k0_pay1, k0_pay60, k0_pay59, k0_pay55, k0_pay54, k0_pay50, k0_pay49, k0_pay45, k0_pay44, k0_pay40, k0_pay39, k0_pay38, k0_pay34, k0_pay33]
      first
        | exact qTile_lo P T (by omega) (by first | omega | (dsimp only; omega))
        | exact qTile_hi P T (by omega) (by first | omega | (dsimp only; omega)) (by omega)
  · rw [outsAt0_B m c t ht]
    frame_out
    generalize k0_pay28 (k0_pay8 (iblk m c 0 t) (iblk m c 3 t)) (iblk m c 6 t) (iblk m c 7 t) = P
    generalize k0_pay26 (iblk m c 1 t) = T
    canon_tiles x h
    all_goals
      idx_vars x
      obtain rfl : y1 = x1 := Fin.ext h1
      pointwise [k0_pay1, k0_pay60, k0_pay59, k0_pay55, k0_pay54, k0_pay50, k0_pay49, k0_pay45, k0_pay44, k0_pay40, k0_pay39, k0_pay38, k0_pay34, k0_pay33]
      first
        | exact qTile_lo P T (by omega) (by first | omega | (dsimp only; omega))
        | exact qTile_hi P T (by omega) (by first | omega | (dsimp only; omega)) (by omega)

/-- A block's key at column `c`, from its projection and its rotated keys. -/
def kTile (P : FVec Ideal S512x1536 .f32) (T : FVec Ideal S512x128 .bf16) (r : Fin 512) (c : Fin 1536) : EReal :=
  if c.val % 256 < 128 then P (ix2 r c) else T (ix2 r ⟨c.val % 256 - 128, by omega⟩)

/-- A plain column of a block's keys. -/
theorem kTile_lo (P : FVec Ideal S512x1536 .f32) (T : FVec Ideal S512x128 .bf16) {r : Fin 512} {c k : Fin 1536} (h : c.val % 256 < 128)
    (e : k.val = c.val) : P (ix2 r k) = kTile P T r c := by
  rw [kTile, if_pos h, Fin.ext e]

/-- A rotated column of a block's keys. -/
theorem kTile_hi (P : FVec Ideal S512x1536 .f32) (T : FVec Ideal S512x128 .bf16) {r : Fin 512} {c : Fin 1536} {d : Fin 128} (h : 128 ≤ c.val % 256)
    (e' : d.val = c.val % 256 - 128) : (T (ix2 r d) : EReal) = kTile P T r c := by
  rw [kTile, if_neg (by omega), Fin.ext (show d.val = (⟨c.val % 256 - 128, by omega⟩ : Fin 128).val from e')]

/-- The key block a grid point leaves. -/
theorem tileK (c : Dev nD) (t : Fin cfg0.N) (y0 : Fin 1) (y1 : Fin 512) (y2 : Fin 1536) :
    ((outsAt0 m c t.val t.isLt).2.2.1 (ix3 y0 y1 y2) : EReal)
      = kTile (k0_pay31 (k0_pay29 (k0_pay9 (iblk m c 0 t) (iblk m c 3 t)) (iblk m c 8 t)) (k0_pay30 (iblk m c 9 t)) (constant S512x1536 .f32 0x00000000#32))
        (k0_pay32 (k0_pay10 (iblk m c 0 t) (iblk m c 3 t)) (k0_pay11 (iblk m c 0 t) (iblk m c 3 t)) (k0_pay26 (iblk m c 1 t)) (k0_pay27 (iblk m c 2 t))) y1 y2 := by
  by_cases ht : t.val % 8 = 0
  · rw [outsAt0_A m c t ht]
    frame_out
    generalize k0_pay29 (k0_pay9 (iblk m c 0 t) (iblk m c 3 t)) (iblk m c 8 t) = a
    generalize k0_pay30 (iblk m c 9 t) = b
    generalize constant (F := Ideal) S512x1536 .f32 0x00000000#32 = z
    generalize k0_pay10 (iblk m c 0 t) (iblk m c 3 t) = u
    generalize k0_pay11 (iblk m c 0 t) (iblk m c 3 t) = v
    generalize k0_pay26 (iblk m c 1 t) = p
    generalize k0_pay27 (iblk m c 2 t) = q
    canon_tiles x h
    all_goals
      idx_vars x
      obtain rfl : y1 = x1 := Fin.ext h1
      pointwise [k0_pay2, k0_pay3, k0_pay56, k0_pay57, k0_pay51, k0_pay52, k0_pay46, k0_pay47, k0_pay41, k0_pay42, k0_pay36, k0_pay35]
      first
        | exact kTile_lo _ _ (by omega) (by first | omega | (dsimp only; omega))
        | exact kTile_hi _ _ (by omega) (by first | omega | (dsimp only; omega))
  · rw [outsAt0_B m c t ht]
    frame_out
    generalize k0_pay29 (k0_pay9 (iblk m c 0 t) (iblk m c 3 t)) (iblk m c 8 t) = a
    generalize k0_pay30 (iblk m c 9 t) = b
    generalize constant (F := Ideal) S512x1536 .f32 0x00000000#32 = z
    generalize k0_pay10 (iblk m c 0 t) (iblk m c 3 t) = u
    generalize k0_pay11 (iblk m c 0 t) (iblk m c 3 t) = v
    generalize k0_pay26 (iblk m c 1 t) = p
    generalize k0_pay27 (iblk m c 2 t) = q
    canon_tiles x h
    all_goals
      idx_vars x
      obtain rfl : y1 = x1 := Fin.ext h1
      pointwise [k0_pay2, k0_pay3, k0_pay56, k0_pay57, k0_pay51, k0_pay52, k0_pay46, k0_pay47, k0_pay41, k0_pay42, k0_pay36, k0_pay35]
      first
        | exact kTile_lo _ _ (by omega) (by first | omega | (dsimp only; omega))
        | exact kTile_hi _ _ (by omega) (by first | omega | (dsimp only; omega))

/-- The value block a grid point leaves. -/
theorem tileV (c : Dev nD) (t : Fin cfg0.N) (y0 : Fin 1) (y1 : Fin 512) (y2 : Fin 768) :
    ((outsAt0 m c t.val t.isLt).2.2.2.1 (ix3 y0 y1 y2) : EReal)
      = (k0_pay31 (k0_pay29 (k0_pay9 (iblk m c 0 t) (iblk m c 3 t)) (iblk m c 8 t)) (k0_pay30 (iblk m c 9 t)) (constant S512x1536 .f32 0x00000000#32))
        (ix2 y1 ⟨colV y2.val, by unfold colV; omega⟩) := by
  by_cases ht : t.val % 8 = 0
  · rw [outsAt0_A m c t ht]
    frame_out
    generalize k0_pay29 (k0_pay9 (iblk m c 0 t) (iblk m c 3 t)) (iblk m c 8 t) = a
    generalize k0_pay30 (iblk m c 9 t) = b
    generalize constant (F := Ideal) S512x1536 .f32 0x00000000#32 = z
    canon_tiles x h
    all_goals
      idx_vars x
      obtain rfl : y1 = x1 := Fin.ext h1
      pointwise [k0_pay4, k0_pay58, k0_pay53, k0_pay48, k0_pay43, k0_pay37]
      exact congrArg (fun k => (k0_pay31 a b z (ix2 y1 k) : EReal)) (Fin.ext (by simp only [colV]; omega))
  · rw [outsAt0_B m c t ht]
    frame_out
    generalize k0_pay29 (k0_pay9 (iblk m c 0 t) (iblk m c 3 t)) (iblk m c 8 t) = a
    generalize k0_pay30 (iblk m c 9 t) = b
    generalize constant (F := Ideal) S512x1536 .f32 0x00000000#32 = z
    canon_tiles x h
    all_goals
      idx_vars x
      obtain rfl : y1 = x1 := Fin.ext h1
      pointwise [k0_pay4, k0_pay58, k0_pay53, k0_pay48, k0_pay43, k0_pay37]
      exact congrArg (fun k => (k0_pay31 a b z (ix2 y1 k) : EReal)) (Fin.ext (by simp only [colV]; omega))

/-- Where the block of grid point `t` lies in the queries. -/
theorem emb11 (t : Fin cfg0.N) (r : Fin 512) (k : Fin 1536) :
    ((cfg0.win 11).blk t).view.emb (ix3 0 r k) = ix3 ⟨t.val / 8, by idx_bounds; omega⟩ ⟨512 * (t.val % 8) + r.val, by omega⟩ k := by
  blk_ext [idx t]

/-- Where the block of grid point `t` lies in the keys. -/
theorem emb12 (t : Fin cfg0.N) (r : Fin 512) (k : Fin 1536) :
    ((cfg0.win 12).blk t).view.emb (ix3 0 r k) = ix3 ⟨t.val / 8, by idx_bounds; omega⟩ ⟨512 * (t.val % 8) + r.val, by omega⟩ k := by
  blk_ext [idx t]

/-- Where the block of grid point `t` lies in the values. -/
theorem emb13 (t : Fin cfg0.N) (r : Fin 512) (k : Fin 768) :
    ((cfg0.win 13).blk t).view.emb (ix3 0 r k) = ix3 ⟨t.val / 8, by idx_bounds; omega⟩ ⟨512 * (t.val % 8) + r.val, by omega⟩ k := by
  blk_ext [idx t]

/-- The queries the kernel leaves. -/
theorem final11 (c : Dev nD) : (dats m 0 c).arrAt 11 (cfgs 0).N
    = Gq (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (dats m 0 c).arrAt_eq_of_covers 11 _ (by decide +kernel) fun t hf y => ?_
  blk_simp
  rw [after0_11]
  idx_vars y
  obtain rfl : y0 = 0 := Subsingleton.elim _ _
  refine (tileQ m c t _ _ _).trans (Eq.trans ?_ (congrArg (Gq _ _ _ _ _ _) (emb11 t y1 y2)).symm)
  unfold qTile
  rw [queries_apply, ta_apply]
  rfl

/-- The keys the kernel leaves. -/
theorem final12 (c : Dev nD) : (dats m 0 c).arrAt 12 (cfgs 0).N
    = Gk (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  refine (dats m 0 c).arrAt_eq_of_covers 12 _ (by decide +kernel) fun t hf y => ?_
  blk_simp
  rw [after0_12]
  idx_vars y
  obtain rfl : y0 = 0 := Subsingleton.elim _ _
  refine (tileK m c t _ _ _).trans (Eq.trans ?_ (congrArg (Gk _ _ _ _ _ _) (emb12 t y1 y2)).symm)
  unfold kTile
  rw [kv_apply, rot_apply]
  rfl

/-- The values the kernel leaves. -/
theorem final13 (c : Dev nD) : (dats m 0 c).arrAt 13 (cfgs 0).N
    = Gv (m ((c : Thread nD τ).loc main_arg0)) (m ((c : Thread nD τ).loc main_arg3)) (m ((c : Thread nD τ).loc main_arg8)) (m ((c : Thread nD τ).loc main_arg9)) := by
  refine (dats m 0 c).arrAt_eq_of_covers 13 _ (by decide +kernel) fun t hf y => ?_
  blk_simp
  rw [after0_13]
  idx_vars y
  obtain rfl : y0 = 0 := Subsingleton.elim _ _
  refine (tileV m c t _ _ _).trans (Eq.trans ?_ (congrArg (Gv _ _ _ _) (emb13 t y1 y2)).symm)
  rw [kv_apply]
  rfl

end Cert.Proof.Mix
-- ==== Proof.MixPool.lean ====
module

public import proofs.«01_k».proof.Proof.MixKernel
public import Idealize.ShloMosaic.Lib.WritesUnit

@[expose] public section

/-!
The call that projects the layer's input: the pooled array it leaves.
-/

set_option maxRecDepth 16384
set_option maxHeartbeats 4000000

noncomputable section

namespace Cert.Proof.Mix

open Idealize.ShloMosaic Idealize.ShloMosaic.TcCoe Idealize.SL.Sem
open Idealize.ShloMosaic.Pipeline (Dat)
open Cert.MixIdeal Cert.MixIdeal.Gen

variable (m : (ℓ : Loc nD τ sig) → Buf (Elt Ideal) ℓ)

/-- The pool's weight in a block per group of channels. -/
def poolW (w : FVec Ideal S4x64x64 .f32) : FVec Ideal S256x256 .bf16 :=
  truncf .bf16 (shapeCast S256x256 (mulf (broadcastInDim S4x64x4x64 ![0, 1, 2, 3] bcast_S4x64x1x64_S4x64x4x64_0_1_2_3 (broadcastInDim S4x64x1x64 ![0, 1, 3] bcast_S4x64x64_S4x64x1x64_0_1_3 w))
    (broadcastInDim S4x64x4x64 ![0, 1, 2, 3] bcast_S4x1x4x1_S4x64x4x64_0_1_2_3 (broadcastInDim S4x1x4x1 ![0, 2] bcast_S4x4_S4x1x4x1_0_2
      (uitofp .f32 (cmpi .eq (addi (iotaInDim S4x4 32 0) (broadcastInDim S4x4 ![] bcast_S_S4x4 (constantI S_ 32 0#32))) (iotaInDim S4x4 32 1)) : FVec Ideal S4x4 .f32))) : FVec Ideal S4x64x4x64 .f32) shapeCasts_S4x64x4x64_S256x256) bitsLt_bf16_f32

/-- The pool's weight as the call finds it. -/
theorem V23 (c : Dev nD) : V m c main_v23 = poolW (m ((c : Thread nD τ).loc main_arg4)) := rfl
/-- The pool's scale as the call finds it. -/
theorem V24 (c : Dev nD) : V m c main_v24 = broadcastInDim S1x256 ![1] bcast_S256_S1x256_1 (m ((c : Thread nD τ).loc main_arg5)) := rfl

/-- Which block of the pool's arrays a grid point's windows are. -/
theorem idxP : ∀ t : Fin cfg0.N, win0_4.index t = ![0, 0] ∧ win0_5.index t = ![0, 0] ∧ win0_10.index t = ![t.val / 8, t.val % 8, 0] ∧ (grid0.coords t 1).val = t.val % 8 :=
  (by decide +kernel : ∀ t : Fin grid0.N, _)

/-- The pool's weight a grid point reads. -/
theorem iblk4 (c : Dev nD) (t : Fin cfg0.N) (r : Fin 256) (k : Fin 256) : iblk m c 4 t (ix2 r k)
    = poolW (m ((c : Thread nD τ).loc main_arg4)) (ix2 r k) := by
  blk_simp [iblk]
  rw [V23]
  blk_ext [idxP t]

/-- The pool's scale a grid point reads. -/
theorem iblk5 (c : Dev nD) (t : Fin cfg0.N) (k : Fin 256) : iblk m c 5 t (ix2 0 k)
    = (m ((c : Thread nD τ).loc main_arg5) (ix1 k) : EReal) := by
  blk_simp [iblk]
  rw [V24]
  pointwise
  blk_ext [idxP t]

/-- Whether two groups of channels are the same, as the kernel's word. -/
theorem eqBit : ∀ a b : Fin 4, IntOp.cmpi .eq (IntOp.addi (BitVec.ofNat 32 a.val) 0#32) (BitVec.ofNat 32 b.val) = if a = b then 1#1 else 0#1 := by decide

/-- The pool's weight in blocks, at an entry. -/
theorem poolW_apply (w : FVec Ideal S4x64x64 .f32) (x k : Fin 256) :
    (poolW w (ix2 x k) : EReal) = if x.val / 64 = k.val / 64 then (w (ix3 ⟨x.val / 64, by omega⟩ ⟨x.val % 64, by omega⟩ ⟨k.val % 64, by omega⟩) : EReal) else 0 := by
  pointwise [poolW]
  rw [eqBit ⟨x.val / 64, by omega⟩ ⟨k.val / 64, by omega⟩]
  simp only [Fin.mk.injEq]
  split_ifs
  · refine Eq.trans (congrArg _ ?_) (mul_one _)
    norm_num [FloatOps.uitofp]
    done
  · refine Eq.trans (congrArg _ ?_) (mul_zero _)
    norm_num [FloatOps.uitofp]
    done
/-- The working array: the 32 rows before a block's projection and the block's. -/
abbrev Work := FVec Ideal S544x256 .f32

/-- Rows `o` on of the working array. -/
def rows (o : ℕ) (X : Work) : FVec Ideal S528x256 .f32 :=
  fun j => X (ix2 (Fin.ofNat 544 (o + (j 0).val)) (j 1))

/-- The working array with its rows from 16 on replaced. -/
def over16 (w : FVec Ideal S528x256 .f32) (X : Work) : Work :=
  fun i => if 16 ≤ (i 0).val then w (ix2 (Fin.ofNat 528 ((i 0).val - 16)) (i 1)) else X i

/-- The working array with its rows from 32 on replaced. -/
def over32 (w : FVec Ideal S512x256 .f32) (X : Work) : Work :=
  fun i => if 32 ≤ (i 0).val then w (ix2 (Fin.ofNat 512 ((i 0).val - 32)) (i 1)) else X i

/-- The working array read after its rows from 16 on are replaced. -/
theorem read16 {κ : Kind} {sp : Space} (V : View sig κ sp S544x256 .f32) (f : V.ty.Contents (Elt Ideal)) (w : FVec Ideal S528x256 .f32) (L : List (View.Piece (Elt Ideal) S544x256 .f32)) :
    View.read (Elt Ideal) V (V.writes (Elt Ideal) f ((⟨Rect.unit ![16, 0] ![528, 256] inb_S544x256_S528x256_16_0, w⟩ : View.Piece (Elt Ideal) S544x256 .f32) :: L))
      = over16 w (View.read (Elt Ideal) V (V.writes (Elt Ideal) f L)) := by
  funext i
  by_cases h : 16 ≤ (i 0).val
  · have hi := (i 0).isLt
    simp only [over16, if_pos h]
    refine View.read_writes_cons_rows_of_mem (d := ![544, 256]) _ _ _ _ _ i (ix2 (Fin.ofNat 528 ((i 0).val - 16)) (i 1)) rfl ?_ rfl
    show (i 0).val = 16 + ((i 0).val - 16) % 528
    change (i 0).val < 544 at hi
    omega
  · simp only [over16, if_neg h]
    exact View.read_writes_cons_rows_of_not_mem (d := ![544, 256]) (W := 528) _ _ _ _ _ i rfl rfl (by omega)

/-- The working array read after its rows from 32 on are replaced. -/
theorem read32 {κ : Kind} {sp : Space} (V : View sig κ sp S544x256 .f32) (f : V.ty.Contents (Elt Ideal)) (w : FVec Ideal S512x256 .f32) (L : List (View.Piece (Elt Ideal) S544x256 .f32)) :
    View.read (Elt Ideal) V (V.writes (Elt Ideal) f ((⟨Rect.unit ![32, 0] ![512, 256] inb_S544x256_S512x256_32_0, w⟩ : View.Piece (Elt Ideal) S544x256 .f32) :: L))
      = over32 w (View.read (Elt Ideal) V (V.writes (Elt Ideal) f L)) := by
  funext i
  by_cases h : 32 ≤ (i 0).val
  · have hi := (i 0).isLt
    simp only [over32, if_pos h]
    refine View.read_writes_cons_rows_of_mem (d := ![544, 256]) _ _ _ _ _ i (ix2 (Fin.ofNat 512 ((i 0).val - 32)) (i 1)) rfl ?_ rfl
    show (i 0).val = 32 + ((i 0).val - 32) % 512
    change (i 0).val < 544 at hi
    omega
  · simp only [over32, if_neg h]
    exact View.read_writes_cons_rows_of_not_mem (d := ![544, 256]) (W := 512) _ _ _ _ _ i rfl rfl (by omega)

/-- A load of 528 rows of the working array. -/
theorem ldRows (o : ℕ) (X : Work) (inb : ∀ a, (![o, 0] : Fin 2 → ℕ) a + (![528, 256] : Fin 2 → ℕ) a ≤ S544x256.size a) :
    View.ld (S := S544x256) (e' := .f32) (Val := Elt Ideal) X (Rect.unit (s := S544x256) ![o, 0] ![528, 256] inb) = rows o X := by
  funext j
  refine View.ld_unit_apply_of (Val := Elt Ideal) (S := S544x256) (e := .f32) X ![o, 0] ![528, 256] inb j (ix2 (Fin.ofNat 544 (o + (j 0).val)) (j 1)) fun a => ?_
  have h := inb 0
  have hj := (j 0).isLt
  change o + 528 ≤ 544 at h
  change (j 0).val < 528 at hj
  fin_cases a
  · show (o + (j 0).val) % 544 = o + (j 0).val
    omega
  · show (j 1).val = 0 + (j 1).val
    omega

/-- A load of 528 rows of the working array after a list of writes. -/
theorem covRows {κ : Kind} {sp : Space} (V : View sig κ sp S544x256 .f32) (o : ℕ) (L : List (View.Piece (Elt Ideal) S544x256 .f32)) (inb : ∀ a, (![o, 0] : Fin 2 → ℕ) a + (![528, 256] : Fin 2 → ℕ) a ≤ S544x256.size a) :
    V.readCov L (Rect.unit (s := S544x256) ![o, 0] ![528, 256] inb).toLoadRect
      = rows o (View.read (Elt Ideal) V (V.writes (Elt Ideal) V.junk L)) :=
  ldRows o _ inb

/-- The rows from 16 on are the ones they were replaced by. -/
theorem rows_over16 (w : FVec Ideal S528x256 .f32) (X : Work) : rows 16 (over16 w X) = w := by
  funext j
  have hj := (j 0).isLt
  change (j 0).val < 528 at hj
  have e : (Fin.ofNat 544 (16 + (j 0).val)).val = 16 + (j 0).val := Nat.mod_eq_of_lt (by omega)
  show (if 16 ≤ (Fin.ofNat 544 (16 + (j 0).val)).val then w (ix2 (Fin.ofNat 528 ((Fin.ofNat 544 (16 + (j 0).val)).val - 16)) (j 1)) else _) = w j
  rw [if_pos (by omega)]
  congr 1
  funext a
  fin_cases a
  · exact Fin.ext (show ((Fin.ofNat 544 (16 + (j 0).val)).val - 16) % 528 = (j 0).val by omega)
  · rfl

/-- The working array after the first doubling of the windows. -/
def dbl1 (X : Work) : Work := over16 (k0_pay14 (rows 16 X) (rows 15 X)) X

/-- The working array after the second doubling of the windows. -/
def dbl2 (X : Work) : Work := over16 (k0_pay17 (k0_pay15 (rows 16 X) (rows 14 X))) X

/-- The working array after the third doubling of the windows. -/
def dbl3 (X : Work) : Work := over16 (k0_pay19 (rows 16 X) (rows 12 X)) X

/-- The pooled block from the working array. -/
def poolTile (X : Work) (u : FVec Ideal S512x256 .f32) (b : BitVec 32) (p : Vec Ideal S256x256 .bf16) (s : Vec Ideal S1x256 .f32) : FVec Ideal S1x512x256 .bf16 :=
  k0_pay25 u (iota .tc S1x256 32 [1] iota_S1x256_d1_w32)
    (k0_pay20 (iota .tc S1x256 32 [1] iota_S1x256_d1_w32) (k0_pay16 (rows 16 X) (rows 15 X) (rows 16 (dbl1 X)) (rows 14 (dbl1 X)))
      (rows 16 (dbl2 (dbl1 X))) (rows 12 (dbl2 (dbl1 X))) (rows 16 (dbl3 (dbl2 (dbl1 X)))) (rows 8 (dbl3 (dbl2 (dbl1 X)))))
    (k0_pay22 b) 64#32 (k0_pay23 (iota .tc S1x256 32 [1] iota_S1x256_d1_w32)) (k0_pay24 (iota .tc S1x256 32 [1] iota_S1x256_d1_w32)) 0#32 p s

/-- What a first block of rows leaves: the pooled block over 32 rows of zeros. -/
theorem tilePA (c : Dev nD) (t : Fin cfg0.N) (h0 : t.val % 8 = 0) :
    ∃ Z : Work, (∀ (x : Fin 544) (k : Fin 256), x.val < 32 → (Z (ix2 x k) : EReal) = 0) ∧ ∀ (y0 : Fin 1) (y1 : Fin 512) (y2 : Fin 256), ((outsAt0 m c t.val t.isLt).1 (ix3 y0 y1 y2) : EReal)
      = poolTile (over32 (k0_pay12 (iblk m c 0 t) (iblk m c 3 t)) Z)
        (k0_pay7 (iblk m c 0 t) (iblk m c 3 t)) (BitVec.ofNat 32 ((grid0.coords t 1).val)) (iblk m c 4 t) (iblk m c 5 t) (ix3 y0 y1 y2) := by
  obtain ⟨Z, hZ⟩ : ∃ Z : Work, Z = (View.whole cc0_scratch0).read (Elt Ideal) ((View.whole cc0_scratch0).writes (Elt Ideal) (View.whole cc0_scratch0).junk
    [⟨Rect.unit (s := S544x256) ![0, 0] ![32, 256] inb_S544x256_S32x256_0_0, (k0_pay5 (F := Ideal) : FVec Ideal S32x256 .f32)⟩]) := ⟨_, rfl⟩
  refine ⟨Z, ?_, fun y0 y1 y2 => ?_⟩
  · subst hZ
    intro x k hx
    refine Eq.trans (View.read_writes_cons_rows_of_mem (d := ![544, 256]) _ _ _ _ _ (ix2 x k) (ix2 (⟨x.val, hx⟩ : Fin 32) k) rfl ?_ rfl) ?_
    · show x.val = 0 + x.val
      omega
    · pointwise [k0_pay5]
  · rw [outsAt0_A m c t h0]
    frame_out
    generalize k0_pay12 (iblk m c 0 t) (iblk m c 3 t) = u
    generalize k0_pay7 (iblk m c 0 t) (iblk m c 3 t) = u'
    simp only [↓View.readCov_cons_toLoadRect, covRows, read16, read32, rows_over16]
    rw [← hZ]
    simp only [poolTile, dbl1, dbl2, dbl3, rows_over16]

/-- The working array as a block finds it, read back. -/
theorem read_unread (h : (Memref.whole cc0_scratch0 : Memref sig .tc .vmem S544x256 .f32).IsWhole) (Z : Work) :
    View.read (Elt Ideal) (View.whole cc0_scratch0) (h.unread Z) = Z := Memref.IsWhole.read_unread (Val := Elt Ideal) h Z

/-- What a later block of rows leaves: the pooled block over what the working array holds. -/
theorem tilePB (c : Dev nD) (t : Fin cfg0.N) (h0 : ¬ t.val % 8 = 0) (y0 : Fin 1) (y1 : Fin 512) (y2 : Fin 256) :
    ((outsAt0 m c t.val t.isLt).1 (ix3 y0 y1 y2) : EReal)
      = poolTile (over32 (k0_pay12 (iblk m c 0 t) (iblk m c 3 t)) (outsAt0 m c (t.val - 1) (by have := t.isLt; omega)).2.2.2.2)
        (k0_pay7 (iblk m c 0 t) (iblk m c 3 t)) (BitVec.ofNat 32 ((grid0.coords t 1).val)) (iblk m c 4 t) (iblk m c 5 t) (ix3 y0 y1 y2) := by
  rw [outsAt0_B m c t h0]
  frame_out
  generalize k0_pay12 (iblk m c 0 t) (iblk m c 3 t) = u
  generalize k0_pay7 (iblk m c 0 t) (iblk m c 3 t) = u'
  simp only [↓View.readCov_cons_toLoadRect, read16, read32, ldRows, rows_over16, View.writes_nil]
  generalize (outsAt0 m c (t.val - 1) _).2.2.2.2 = Z
  simp only [read_unread]
  simp only [poolTile, dbl1, dbl2, dbl3, rows_over16]

/-- The working array's first 32 rows after a first block: the last 32 rows of its projection. -/
theorem scrA (c : Dev nD) (t : Fin cfg0.N) (h0 : t.val % 8 = 0) (x : Fin 544) (k : Fin 256) (hx : x.val < 32) :
    ((outsAt0 m c t.val t.isLt).2.2.2.2 (ix2 x k) : EReal) = k0_pay7 (iblk m c 0 t) (iblk m c 3 t) (ix2 ⟨480 + x.val, by omega⟩ k) := by
  rw [outsAt0_A m c t h0]
  frame_out
  have e : ix2 x k = (Rect.unit (s := S544x256) ![0, 0] ![32, 256] inb_S544x256_S32x256_0_0).emb (ix2 (⟨x.val, hx⟩ : Fin 32) k) := by
    funext a
    fin_cases a
    · exact Fin.ext (show x.val = 0 + 1 * x.val by omega)
    · exact Fin.ext (show k.val = 0 + 1 * k.val by omega)
  rw [e]
  refine (View.canon_cons_emb (Val := Elt Ideal) (s := S544x256) (e := .f32) (Rect.unit (s := S544x256) ![0, 0] ![32, 256] inb_S544x256_S32x256_0_0) _ _ (ix2 (⟨x.val, hx⟩ : Fin 32) k)).trans ?_
  pointwise [k0_pay21]

/-- The working array's first 32 rows after a later block: the last 32 rows of its projection. -/
theorem scrB (c : Dev nD) (t : Fin cfg0.N) (h0 : ¬ t.val % 8 = 0) (x : Fin 544) (k : Fin 256) (hx : x.val < 32) :
    ((outsAt0 m c t.val t.isLt).2.2.2.2 (ix2 x k) : EReal) = k0_pay7 (iblk m c 0 t) (iblk m c 3 t) (ix2 ⟨480 + x.val, by omega⟩ k) := by
  rw [outsAt0_B m c t h0]
  frame_out
  have e : ix2 x k = (Rect.unit (s := S544x256) ![0, 0] ![32, 256] inb_S544x256_S32x256_0_0).emb (ix2 (⟨x.val, hx⟩ : Fin 32) k) := by
    funext a
    fin_cases a
    · exact Fin.ext (show x.val = 0 + 1 * x.val by omega)
    · exact Fin.ext (show k.val = 0 + 1 * k.val by omega)
  rw [e]
  refine (View.canon_cons_emb (Val := Elt Ideal) (s := S544x256) (e := .f32) (Rect.unit (s := S544x256) ![0, 0] ![32, 256] inb_S544x256_S32x256_0_0) _ _ (ix2 (⟨x.val, hx⟩ : Fin 32) k)).trans ?_
  pointwise [k0_pay21]

/-- A column of the working array, by its rows' numbers. -/
def col (X : Work) (j : Fin 256) (e : ℕ) : EReal := X (ix2 (Fin.ofNat 544 e) j)

/-- A replaced row, in a column. -/
theorem over16_at (w : FVec Ideal S528x256 .f32) (X : Work) (j : Fin 256) {e : ℕ} (h : 16 ≤ e) (h' : e < 544) :
    col (over16 w X) j e = w (ix2 (Fin.ofNat 528 (e - 16)) j) := by
  have f : (Fin.ofNat 544 e).val = e := Nat.mod_eq_of_lt h'
  show (if 16 ≤ (Fin.ofNat 544 e).val then w (ix2 (Fin.ofNat 528 ((Fin.ofNat 544 e).val - 16)) j) else _) = _
  rw [if_pos (by omega), f]

/-- A loaded row, in a column. -/
theorem rows_at (o : ℕ) (X : Work) (j : Fin 256) {e : ℕ} (h : e < 528) : (rows o X (ix2 (Fin.ofNat 528 e) j) : EReal) = col X j (o + e) := by
  have f : (Fin.ofNat 528 e).val = e := Nat.mod_eq_of_lt h
  show col X j (o + (Fin.ofNat 528 e).val) = _
  rw [f]

/-- The first doubling adds the row one before. -/
theorem dbl1_at (X : Work) (j : Fin 256) {e : ℕ} (h : 16 ≤ e) (h' : e < 544) : col (dbl1 X) j e = col X j e + col X j (e - 1) := by
  rw [dbl1, over16_at _ _ _ h h']
  have : (k0_pay14 (F := Ideal) (rows 16 X) (rows 15 X) (ix2 (Fin.ofNat 528 (e - 16)) j) : EReal) = (rows 16 X (ix2 (Fin.ofNat 528 (e - 16)) j) : EReal) + rows 15 X (ix2 (Fin.ofNat 528 (e - 16)) j) := by
    pointwise [k0_pay14, k0_pay13]
  rw [this, rows_at _ _ _ (by omega), rows_at _ _ _ (by omega), show 16 + (e - 16) = e by omega, show 15 + (e - 16) = e - 1 by omega]

/-- The second doubling adds the row two before. -/
theorem dbl2_at (X : Work) (j : Fin 256) {e : ℕ} (h : 16 ≤ e) (h' : e < 544) : col (dbl2 X) j e = col X j e + col X j (e - 2) := by
  rw [dbl2, over16_at _ _ _ h h']
  have : (k0_pay17 (F := Ideal) (k0_pay15 (rows 16 X) (rows 14 X)) (ix2 (Fin.ofNat 528 (e - 16)) j) : EReal) = (rows 16 X (ix2 (Fin.ofNat 528 (e - 16)) j) : EReal) + rows 14 X (ix2 (Fin.ofNat 528 (e - 16)) j) := by
    pointwise [k0_pay17, k0_pay15]
  rw [this, rows_at _ _ _ (by omega), rows_at _ _ _ (by omega), show 16 + (e - 16) = e by omega, show 14 + (e - 16) = e - 2 by omega]

/-- The third doubling adds the row four before. -/
theorem dbl3_at (X : Work) (j : Fin 256) {e : ℕ} (h : 16 ≤ e) (h' : e < 544) : col (dbl3 X) j e = col X j e + col X j (e - 4) := by
  rw [dbl3, over16_at _ _ _ h h']
  have : (k0_pay19 (F := Ideal) (rows 16 X) (rows 12 X) (ix2 (Fin.ofNat 528 (e - 16)) j) : EReal) = (rows 16 X (ix2 (Fin.ofNat 528 (e - 16)) j) : EReal) + rows 12 X (ix2 (Fin.ofNat 528 (e - 16)) j) := by
    pointwise [k0_pay19, k0_pay18]
  rw [this, rows_at _ _ _ (by omega), rows_at _ _ _ (by omega), show 16 + (e - 16) = e by omega, show 12 + (e - 16) = e - 4 by omega]

/-- The sum of `n` entries of a sequence, the `e`-th and those before it. -/
def win (f : ℕ → EReal) (e : ℕ) : ℕ → EReal
  | 0 => 0
  | n + 1 => win f e n + f (e - n)

/-- The sum of two rows. -/
theorem win2 (X : Work) (j : Fin 256) {e : ℕ} (h : 32 ≤ e) (h' : e < 544) : col X j e + col X j (e - 1) = win (col X j) e 2 := by
  simp only [win, zero_add, Nat.sub_zero]

/-- Two sums of two rows are a sum of four. -/
theorem win4 (X : Work) (j : Fin 256) {e : ℕ} (h : 32 ≤ e) (h' : e < 544) : col (dbl1 X) j e + col (dbl1 X) j (e - 2) = win (col X j) e 4 := by
  rw [dbl1_at X j (by omega) h', dbl1_at X j (by omega) (by omega)]
  simp only [win, zero_add, Nat.sub_zero, Nat.sub_sub, add_assoc, Nat.reduceAdd]

/-- Two sums of four rows are a sum of eight. -/
theorem win8 (X : Work) (j : Fin 256) {e : ℕ} (h : 32 ≤ e) (h' : e < 544) : col (dbl2 (dbl1 X)) j e + col (dbl2 (dbl1 X)) j (e - 4) = win (col X j) e 8 := by
  rw [dbl2_at _ j (by omega) h', dbl2_at _ j (by omega) (by omega), dbl1_at X j (by omega) h', dbl1_at X j (by omega) (by omega), dbl1_at X j (by omega) (by omega), dbl1_at X j (by omega) (by omega)]
  simp only [win, zero_add, Nat.sub_zero, Nat.sub_sub, add_assoc, Nat.reduceAdd]

/-- Two sums of eight rows are a sum of sixteen. -/
theorem win16 (X : Work) (j : Fin 256) {e : ℕ} (h : 32 ≤ e) (h' : e < 544) : col (dbl3 (dbl2 (dbl1 X))) j e + col (dbl3 (dbl2 (dbl1 X))) j (e - 8) = win (col X j) e 16 := by
  rw [dbl3_at _ j (by omega) h', dbl3_at _ j (by omega) (by omega), dbl2_at _ j (by omega) h', dbl2_at _ j (by omega) (by omega), dbl2_at _ j (by omega) (by omega), dbl2_at _ j (by omega) (by omega),
    dbl1_at X j (by omega) h', dbl1_at X j (by omega) (by omega), dbl1_at X j (by omega) (by omega), dbl1_at X j (by omega) (by omega), dbl1_at X j (by omega) (by omega), dbl1_at X j (by omega) (by omega), dbl1_at X j (by omega) (by omega), dbl1_at X j (by omega) (by omega)]
  simp only [win, zero_add, Nat.sub_zero, Nat.sub_sub, add_assoc, Nat.reduceAdd]

/-- The window of a channel: two, four, eight or sixteen rows by its group. -/
def wOf (x : ℕ) : ℕ := 2 ^ (x / 64 + 1)

/-- Which channels are of the last group. -/
theorem cmp192 : ∀ x : Fin 256, IntOp.cmpi .sge (BitVec.ofNat 32 x.val) 192#32 = if 192 ≤ x.val then 1#1 else 0#1 := by decide
/-- Which channels are of the last two groups. -/
theorem cmp128 : ∀ x : Fin 256, IntOp.cmpi .sge (BitVec.ofNat 32 x.val) 128#32 = if 128 ≤ x.val then 1#1 else 0#1 := by decide
/-- Which channels are not of the first group. -/
theorem cmp64 : ∀ x : Fin 256, IntOp.cmpi .sge (BitVec.ofNat 32 x.val) 64#32 = if 64 ≤ x.val then 1#1 else 0#1 := by decide

/-- A pooled block from the working array, at an entry. -/
theorem pool_apply (X : Work) (u : FVec Ideal S512x256 .f32) (b : BitVec 32) (p : Vec Ideal S256x256 .bf16) (s : Vec Ideal S1x256 .f32) (r : Fin 512) (k : Fin 256) :
    (poolTile X u b p s (ix3 0 r k) : EReal) = (∑ x : Fin 256, (Ideal.div (win (col X x) (32 + r.val) (wOf x.val))
      (FloatOps.sitofp (F := Ideal) FTy.f32 (IntOp.minsi (IntOp.addi (IntOp.addi (Scalar.muli b 512#32) (BitVec.ofNat 32 r.val)) 1#32) (BitVec.ofNat 32 (wOf x.val))) : EReal) - u (ix2 r x)) * p (ix2 x k)) * s (ix2 0 k) := by
  have er (o : ℕ) (Y : Work) (h : 16 + r.val < 528) (x : Fin 256) : (rows o Y (ix2 ⟨16 + r.val, h⟩ x) : EReal) = col Y x (o + (16 + r.val)) := rfl
  have e1 (x : Fin 256) := win2 X x (e := 32 + r.val) (by omega) (by omega)
  have e2 (x : Fin 256) := win4 X x (e := 32 + r.val) (by omega) (by omega)
  have e3 (x : Fin 256) := win8 X x (e := 32 + r.val) (by omega) (by omega)
  have e4 (x : Fin 256) := win16 X x (e := 32 + r.val) (by omega) (by omega)
  unfold poolTile
  revert e1 e2 e3 e4
  generalize dbl3 (dbl2 (dbl1 X)) = X3
  generalize dbl2 (dbl1 X) = X2
  generalize dbl1 X = X1
  intro e1 e2 e3 e4
  pointwise [k0_pay25, k0_pay20, k0_pay16, k0_pay13, k0_pay15, k0_pay18, k0_pay22, k0_pay23, k0_pay24]
  congr 1
  refine Finset.sum_congr rfl fun x _ => ?_
  congr 3
  · rw [cmp192, cmp128, cmp64]
    simp only [er]
    rw [show 16 + (16 + r.val) = 32 + r.val by omega, show 8 + (16 + r.val) = 32 + r.val - 8 by omega, show 12 + (16 + r.val) = 32 + r.val - 4 by omega,
      show 14 + (16 + r.val) = 32 + r.val - 2 by omega, show 15 + (16 + r.val) = 32 + r.val - 1 by omega, e1, e2, e3, e4]
    unfold wOf
    by_cases h3 : 192 ≤ x.val
    · rw [if_pos h3, show x.val / 64 = 3 by omega]; rfl
    by_cases h2 : 128 ≤ x.val
    · rw [if_neg h3, if_pos h2, show x.val / 64 = 2 by omega]; rfl
    by_cases h1 : 64 ≤ x.val
    · rw [if_neg h3, if_neg h2, if_pos h1, show x.val / 64 = 1 by omega]; rfl
    · rw [if_neg h3, if_neg h2, if_neg h1, show x.val / 64 = 0 by omega]; rfl
  · congr 2
    revert x
    unfold wOf
    decide

/-- How many of the last `w` rows there are at row `s`. -/
def cnt (s w : ℕ) : EReal := FloatOps.sitofp (F := Ideal) FTy.f32 (IntOp.minsi (IntOp.addi (BitVec.ofNat 32 s) 1#32) (BitVec.ofNat 32 w))

/-- The pool's column `j` of sample `n`, 32 zeros before its first row. -/
def Hs (x : Vec Ideal S8x4096x1024 .f32) (w : Vec Ideal S1024x704 .f32) (n : Fin 8) (j e : ℕ) : EReal :=
  if 32 ≤ e then H x w n (Fin.ofNat 4096 (e - 32)) j else 0

/-- The mean of a channel's last rows less the row itself. -/
def poolD (x : Vec Ideal S8x4096x1024 .f32) (w : Vec Ideal S1024x704 .f32) (n : Fin 8) (s : Fin 4096) (j : ℕ) : EReal :=
  Ideal.div (win (Hs x w n j) (32 + s.val) (wOf j)) (cnt s.val (wOf j)) - H x w n s j

/-- The pooled result. -/
def Gp (x : Vec Ideal S8x4096x1024 .f32) (w : Vec Ideal S1024x704 .f32) (pw : Vec Ideal S4x64x64 .f32) (ps : Vec Ideal S256 .f32) : Vec Ideal S8x4096x256 .bf16 := fun i =>
  (∑ c : Fin 64, pw (ix3 (Fin.ofNat 4 ((i 2).val / 64)) c (Fin.ofNat 64 ((i 2).val % 64))) * poolD x w (i 0) (i 1) ((i 2).val / 64 * 64 + c.val)) * ps (ix1 (i 2))

/-- A window's sum is of the entries it holds. -/
theorem win_congr (f g : ℕ → EReal) (e e' : ℕ) : ∀ n : ℕ, (∀ i < n, f (e - i) = g (e' - i)) → win f e n = win g e' n
  | 0, _ => rfl
  | n + 1, h => by rw [win, win, win_congr f g e e' n fun i hi => h i (by omega), h n (by omega)]

/-- A sum over all channels whose other groups' terms vanish. -/
theorem sum_group (f w : Fin 256 → EReal) (g : Fin 4) : (∑ x : Fin 256, f x * (if x.val / 64 = g.val then w x else 0))
    = ∑ c : Fin 64, w ⟨g.val * 64 + c.val, by omega⟩ * f ⟨g.val * 64 + c.val, by omega⟩ := by
  symm
  refine Finset.sum_of_injOn (fun c : Fin 64 => (⟨g.val * 64 + c.val, by omega⟩ : Fin 256)) ?_ ?_ ?_ ?_
  · intro a _ b _ h
    have := congrArg Fin.val h
    exact Fin.ext (by dsimp only at this; omega)
  · intro a _
    exact Finset.mem_coe.mpr (Finset.mem_univ _)
  · intro x _ hx
    rw [if_neg, mul_zero]
    intro h
    exact hx ⟨⟨x.val % 64, by omega⟩, Finset.mem_coe.mpr (Finset.mem_univ _), Fin.ext (by dsimp only; omega)⟩
  · intro c _
    dsimp only
    rw [if_pos (by omega), mul_comm]

/-- The pool's share of a grid point's projection, at an entry. -/
theorem share_apply (c : Dev nD) (t : Fin cfg0.N) (r : Fin 512) (k : Fin 256) :
    (k0_pay7 (iblk m c 0 t) (iblk m c 3 t) (ix2 r k) : EReal)
      = H (m ((c : Thread nD τ).loc main_arg0)) (m ((c : Thread nD τ).loc main_arg3)) ⟨t.val / 8, by idx_bounds; omega⟩ ⟨512 * (t.val % 8) + r.val, by omega⟩ k.val := by
  have e : (k0_pay7 (iblk m c 0 t) (iblk m c 3 t) (ix2 r k) : EReal) = k0_pay6 (iblk m c 0 t) (iblk m c 3 t) (ix2 r ⟨k.val, by omega⟩) := by
    pointwise [k0_pay7]
  rw [e, proj_apply]
  congr 1
  exact if_pos (by dsimp only; omega)

/-- The working array over the last rows before it, by the rows' numbers in the sample. -/
theorem work_apply (c : Dev nD) (t : Fin cfg0.N) (Z : Work)
    (hZ : ∀ (x : Fin 544) (k : Fin 256), x.val < 32 → (Z (ix2 x k) : EReal) = Hs (m ((c : Thread nD τ).loc main_arg0)) (m ((c : Thread nD τ).loc main_arg3)) ⟨t.val / 8, by idx_bounds; omega⟩ k.val (512 * (t.val % 8) + x.val))
    (k : Fin 256) (e : ℕ) (he : e < 544) :
    col (over32 (k0_pay12 (iblk m c 0 t) (iblk m c 3 t)) Z) k e
      = Hs (m ((c : Thread nD τ).loc main_arg0)) (m ((c : Thread nD τ).loc main_arg3)) ⟨t.val / 8, by idx_bounds; omega⟩ k.val (512 * (t.val % 8) + e) := by
  have f : (Fin.ofNat 544 e).val = e := Nat.mod_eq_of_lt he
  show (if 32 ≤ (Fin.ofNat 544 e).val then k0_pay12 (iblk m c 0 t) (iblk m c 3 t) (ix2 (Fin.ofNat 512 ((Fin.ofNat 544 e).val - 32)) k) else Z (ix2 (Fin.ofNat 544 e) k) : EReal) = _
  by_cases h : 32 ≤ e
  · rw [if_pos (by omega), f, Hs, if_pos (by omega)]
    have e1 : (k0_pay12 (iblk m c 0 t) (iblk m c 3 t) (ix2 (Fin.ofNat 512 (e - 32)) k) : EReal) = k0_pay7 (iblk m c 0 t) (iblk m c 3 t) (ix2 (Fin.ofNat 512 (e - 32)) k) := by
      pointwise [k0_pay12]
    rw [e1, share_apply]
    congr 1
    exact Fin.ext (show 512 * (t.val % 8) + (e - 32) % 512 = (512 * (t.val % 8) + e - 32) % 4096 by omega)
  · rw [if_neg (by omega), hZ _ _ (by omega), f]

/-- The count of a block's row is the count of its row in the sample. -/
theorem cnt_apply (b r w : ℕ) : (FloatOps.sitofp (F := Ideal) FTy.f32 (IntOp.minsi (IntOp.addi (IntOp.addi (Scalar.muli (BitVec.ofNat 32 b) 512#32) (BitVec.ofNat 32 r)) 1#32) (BitVec.ofNat 32 w)) : EReal)
    = cnt (512 * b + r) w := by
  have e : IntOp.addi (Scalar.muli (BitVec.ofNat 32 b) 512#32) (BitVec.ofNat 32 r) = BitVec.ofNat 32 (512 * b + r) := by
    show BitVec.ofNat 32 b * BitVec.ofNat 32 512 + BitVec.ofNat 32 r = _
    rw [← BitVec.ofNat_mul, ← BitVec.ofNat_add, Nat.mul_comm]
  rw [e, cnt]

/-- A pooled block, at an entry of the result. -/
theorem block_apply (c : Dev nD) (t : Fin cfg0.N) (Z : Work)
    (hZ : ∀ (x : Fin 544) (k : Fin 256), x.val < 32 → (Z (ix2 x k) : EReal) = Hs (m ((c : Thread nD τ).loc main_arg0)) (m ((c : Thread nD τ).loc main_arg3)) ⟨t.val / 8, by idx_bounds; omega⟩ k.val (512 * (t.val % 8) + x.val))
    (r : Fin 512) (k : Fin 256) :
    (poolTile (over32 (k0_pay12 (iblk m c 0 t) (iblk m c 3 t)) Z) (k0_pay7 (iblk m c 0 t) (iblk m c 3 t)) (BitVec.ofNat 32 ((grid0.coords t 1).val)) (iblk m c 4 t) (iblk m c 5 t) (ix3 0 r k) : EReal)
      = Gp (m ((c : Thread nD τ).loc main_arg0)) (m ((c : Thread nD τ).loc main_arg3)) (m ((c : Thread nD τ).loc main_arg4)) (m ((c : Thread nD τ).loc main_arg5))
        (ix3 ⟨t.val / 8, by idx_bounds; omega⟩ ⟨512 * (t.val % 8) + r.val, by omega⟩ k) := by
  rw [pool_apply, iblk5, (idxP t).2.2.2]
  refine congrArg (· * _) ?_
  refine Eq.trans (Finset.sum_congr rfl fun x _ => ?_) (sum_group (fun x => poolD (m ((c : Thread nD τ).loc main_arg0)) (m ((c : Thread nD τ).loc main_arg3)) ⟨t.val / 8, by idx_bounds; omega⟩ ⟨512 * (t.val % 8) + r.val, by omega⟩ x.val)
    (fun x => (m ((c : Thread nD τ).loc main_arg4) (ix3 ⟨x.val / 64, by omega⟩ ⟨x.val % 64, by omega⟩ ⟨k.val % 64, by omega⟩) : EReal)) ⟨k.val / 64, by omega⟩) |>.trans ?_
  · rw [iblk4, poolW_apply, share_apply, cnt_apply, poolD]
    refine congrArg (· * _) (congrArg (· - _) (congrArg (Ideal.div · _) ?_))
    have hw : wOf x.val ≤ 16 := by
      unfold wOf
      exact (Nat.pow_le_pow_right (by omega) (show x.val / 64 + 1 ≤ 4 by omega))
    refine win_congr _ _ _ _ _ fun i hi => ?_
    rw [work_apply m c t Z hZ x _ (by omega)]
    exact congrArg _ (by dsimp only; omega)
  · refine Finset.sum_congr rfl fun j _ => ?_
    refine congrArg (· * _) (congrArg _ ?_)
    congr 1
    · exact Fin.ext (show (k.val / 64 * 64 + j.val) / 64 = k.val / 64 % 4 by omega)
    · exact Fin.ext (show (k.val / 64 * 64 + j.val) % 64 = j.val by omega)
    · exact Fin.ext (show k.val % 64 = k.val % 64 % 64 by omega)

/-- Where the block of grid point `t` lies in the pooled result. -/
theorem emb10 (t : Fin cfg0.N) (r : Fin 512) (k : Fin 256) :
    ((cfg0.win 10).blk t).view.emb (ix3 0 r k) = ix3 ⟨t.val / 8, by idx_bounds; omega⟩ ⟨512 * (t.val % 8) + r.val, by omega⟩ k := by
  blk_ext [idxP t]

/-- What the working array holds before a later block: the sample's 32 rows before it. -/
theorem before_apply (c : Dev nD) (t : Fin cfg0.N) (h0 : ¬ t.val % 8 = 0) (x : Fin 544) (k : Fin 256) (hx : x.val < 32) :
    ((outsAt0 m c (t.val - 1) (by have := t.isLt; omega)).2.2.2.2 (ix2 x k) : EReal)
      = Hs (m ((c : Thread nD τ).loc main_arg0)) (m ((c : Thread nD τ).loc main_arg3)) ⟨t.val / 8, by idx_bounds; omega⟩ k.val (512 * (t.val % 8) + x.val) := by
  have e : ((outsAt0 m c (t.val - 1) (by have := t.isLt; omega)).2.2.2.2 (ix2 x k) : EReal)
      = k0_pay7 (iblk m c 0 ⟨t.val - 1, by have := t.isLt; omega⟩) (iblk m c 3 ⟨t.val - 1, by have := t.isLt; omega⟩) (ix2 ⟨480 + x.val, by omega⟩ k) := by
    by_cases h1 : (t.val - 1) % 8 = 0
    · exact scrA m c ⟨t.val - 1, by have := t.isLt; omega⟩ h1 x k hx
    · exact scrB m c ⟨t.val - 1, by have := t.isLt; omega⟩ h1 x k hx
  rw [e, share_apply, Hs, if_pos (by omega)]
  congr 1
  · exact Fin.ext (show (t.val - 1) / 8 = t.val / 8 by omega)
  · exact Fin.ext (show 512 * ((t.val - 1) % 8) + (480 + x.val) = (512 * (t.val % 8) + x.val - 32) % 4096 by omega)

/-- The pooled result the kernel leaves. -/
theorem final10 (c : Dev nD) : (dats m 0 c).arrAt 10 (cfgs 0).N
    = Gp (m ((c : Thread nD τ).loc main_arg0)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  idx_vars y
  obtain rfl : y0 = 0 := Subsingleton.elim _ _
  refine Eq.trans ?_ (congrArg (Gp _ _ _ _) (emb10 t y1 y2)).symm
  by_cases h0 : t.val % 8 = 0
  · obtain ⟨Z, hZ, hP⟩ := tilePA m c t h0
    refine (hP 0 y1 y2).trans (block_apply m c t Z (fun x k hx => ?_) y1 y2)
    rw [hZ x k hx, Hs, if_neg (by omega)]
  · exact (tilePB m c t h0 0 y1 y2).trans (block_apply m c t _ (fun x k hx => before_apply m c t h0 x k hx) y1 y2)

end Cert.Proof.Mix
-- ==== Proof.MixRef.lean ====
module

public import proofs.«01_k».proof.Proof.MixKernel
public import proofs.«01_k».proof.Proof.Gen.MixRefIdeal.Run

@[expose] public section

/-!
The reference of the call that projects the layer's input, in stages, and what its stages are at an entry.
-/

set_option maxRecDepth 16384
set_option maxHeartbeats 4000000

noncomputable section

namespace Cert.Proof.Mix

open Idealize.ShloMosaic Idealize.ShloMosaic.TcCoe Idealize.SL.Sem
open Idealize.ShloMosaic.Pipeline (Dat)

section Reference
open Cert.MixRefIdeal Cert.MixRefIdeal.Gen

/-- The reference's projection of the input. -/
def refH (x : FVec Ideal S8x4096x1024 .f32) (w : FVec Ideal S1024x704 .f32) : FVec Ideal S8x4096x704 .f32 :=
  Host.dotGeneral dot_S8x4096x1024_S1024x704_S8x4096x704_2_0_01_1_n_n none x w

/-- The reference's normalization of the queries' share. -/
def refNq (z : FVec Ideal S8x4096x256 .f32) (g : FVec Ideal S256 .f32) : FVec Ideal S8x4096x256 .f32 :=
  mulf (mulf z (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf z z) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32))))))
    (broadcastInDim S8x4096x256 ![0, 1, 2] bcast_S1x1x256_S8x4096x256_0_1_2 (broadcastInDim S1x1x256 ![2] bcast_S256_S1x1x256_2 g))

/-- The reference's normalization of the keys' and values' share. -/
def refNk (z : FVec Ideal S8x4096x128 .f32) (g : FVec Ideal S128 .f32) : FVec Ideal S8x4096x128 .f32 :=
  mulf (mulf z (broadcastInDim S8x4096x128 ![0, 1, 2] bcast_S8x4096x1_S8x4096x128_0_1_2 (Host.rsqrt (addf (Host.divf (broadcastInDim S8x4096x1 ![0, 1] bcast_S8x4096_S8x4096x1_0_1 (Host.reduceAdd (mulf z z) (constant S_ .f32 0x00000000#32) reducesTo_S8x4096x128_S8x4096_d2 h_S_)) (broadcastInDim S8x4096x1 ![] bcast_S_S8x4096x1 (constant S_ .f32 0x43000000#32))) (broadcastInDim S8x4096x1 ![] bcast_S_S8x4096x1 (constant S_ .f32 0x358637BD#32))))))
    (broadcastInDim S8x4096x128 ![0, 1, 2] bcast_S1x1x128_S8x4096x128_0_1_2 (broadcastInDim S1x1x128 ![2] bcast_S128_S1x1x128_2 g))

/-- The reference's scaled queries by heads, before the rotation. -/
def refQ (h : FVec Ideal S8x4096x704 .f32) (g : FVec Ideal S256 .f32) (u : FVec Ideal S256x1152 .f32) : FVec Ideal S8x4096x6x192 .f32 :=
  mulf (shapeCast S8x4096x6x192 (Host.dotGeneral dot_S8x4096x256_S256x1152_S8x4096x1152_2_0_01_1_n_n none
    (refNq (extractStridedSlice S8x4096x256 ![0, 0, 256] h slices_S8x4096x704_S8x4096x256_0_0_256) g) u : FVec Ideal S8x4096x1152 .f32) shapeCasts_S8x4096x1152_S8x4096x6x192)
    (broadcastInDim S8x4096x6x192 ![] bcast_S_S8x4096x6x192 (constant S_ .f32 0x3D93CD3A#32))

/-- The reference's keys and values by heads. -/
def refKV (h : FVec Ideal S8x4096x704 .f32) (g : FVec Ideal S128 .f32) (u : FVec Ideal S128x1536 .f32) : FVec Ideal S8x4096x6x256 .f32 :=
  shapeCast S8x4096x6x256 (Host.dotGeneral dot_S8x4096x128_S128x1536_S8x4096x1536_2_0_01_1_n_n none
    (refNk (extractStridedSlice S8x4096x128 ![0, 0, 512] h slices_S8x4096x704_S8x4096x128_0_0_512) g) u : FVec Ideal S8x4096x1536 .f32) shapeCasts_S8x4096x1536_S8x4096x6x256

/-- A table of the rotation, the same for each head. -/
def refHeads (a : FVec Ideal S8x4096x32 .f32) : FVec Ideal S8x4096x6x32 .f32 :=
  broadcastInDim S8x4096x6x32 ![0, 1, 2, 3] bcast_S8x4096x1x32_S8x4096x6x32_0_1_2_3 (broadcastInDim S8x4096x1x32 ![0, 1, 3] bcast_S8x4096x32_S8x4096x1x32_0_1_3 a)

/-- The reference's queries by heads: the plain columns and the four products of the rotation. -/
def refQ5 (q : FVec Ideal S8x4096x6x192 .f32) (co si : FVec Ideal S8x4096x32 .f32) : FVec Ideal S8x4096x6x256 .f32 :=
  concatenate S8x4096x6x256 3 [⟨S8x4096x6x128, (extractStridedSlice S8x4096x6x128 ![0, 0, 0, 0] q slices_S8x4096x6x192_S8x4096x6x128_0_0_0_0 : FVec Ideal S8x4096x6x128 .f32)⟩,
    ⟨S8x4096x6x32, (mulf (extractStridedSlice S8x4096x6x32 ![0, 0, 0, 128] q slices_S8x4096x6x192_S8x4096x6x32_0_0_0_128) (refHeads co) : FVec Ideal S8x4096x6x32 .f32)⟩,
    ⟨S8x4096x6x32, (mulf (extractStridedSlice S8x4096x6x32 ![0, 0, 0, 160] q slices_S8x4096x6x192_S8x4096x6x32_0_0_0_160) (refHeads co) : FVec Ideal S8x4096x6x32 .f32)⟩,
    ⟨S8x4096x6x32, (Host.negf (mulf (extractStridedSlice S8x4096x6x32 ![0, 0, 0, 160] q slices_S8x4096x6x192_S8x4096x6x32_0_0_0_160) (refHeads si)) : FVec Ideal S8x4096x6x32 .f32)⟩,
    ⟨S8x4096x6x32, (mulf (extractStridedSlice S8x4096x6x32 ![0, 0, 0, 128] q slices_S8x4096x6x192_S8x4096x6x32_0_0_0_128) (refHeads si) : FVec Ideal S8x4096x6x32 .f32)⟩]
    concatenates_S8x4096x6x128_S8x4096x6x32_S8x4096x6x32_S8x4096x6x32_S8x4096x6x32_S8x4096x6x256_d3

/-- The reference's rotated key. -/
def refRot (h : FVec Ideal S8x4096x704 .f32) (co si : FVec Ideal S8x4096x32 .f32) : FVec Ideal S8x4096x64 .f32 :=
  let a : FVec Ideal S8x4096x32 .f32 := extractStridedSlice S8x4096x32 ![0, 0, 640] h slices_S8x4096x704_S8x4096x32_0_0_640
  let b : FVec Ideal S8x4096x32 .f32 := extractStridedSlice S8x4096x32 ![0, 0, 672] h slices_S8x4096x704_S8x4096x32_0_0_672
  concatenate S8x4096x64 2 [⟨S8x4096x32, (subf (mulf a co) (mulf b si) : FVec Ideal S8x4096x32 .f32)⟩, ⟨S8x4096x32, (addf (mulf b co) (mulf a si) : FVec Ideal S8x4096x32 .f32)⟩]
    concatenates_S8x4096x32_S8x4096x32_S8x4096x64_d2

/-- The rotated key, the same for each head. -/
def refRotH (r : FVec Ideal S8x4096x64 .f32) : FVec Ideal S8x4096x6x64 .f32 :=
  broadcastInDim S8x4096x6x64 ![0, 1, 2, 3] bcast_S8x4096x1x64_S8x4096x6x64_0_1_2_3 (broadcastInDim S8x4096x1x64 ![0, 1, 3] bcast_S8x4096x64_S8x4096x1x64_0_1_3 r)

/-- The reference's keys by heads: the plain columns and the rotated key twice. -/
def refK3 (kv : FVec Ideal S8x4096x6x256 .f32) (r : FVec Ideal S8x4096x64 .f32) : FVec Ideal S8x4096x6x256 .f32 :=
  concatenate S8x4096x6x256 3 [⟨S8x4096x6x128, (extractStridedSlice S8x4096x6x128 ![0, 0, 0, 0] kv slices_S8x4096x6x256_S8x4096x6x128_0_0_0_0 : FVec Ideal S8x4096x6x128 .f32)⟩,
    ⟨S8x4096x6x64, refRotH r⟩, ⟨S8x4096x6x64, refRotH r⟩]
    concatenates_S8x4096x6x128_S8x4096x6x64_S8x4096x6x64_S8x4096x6x256_d3

/-- The heads of the queries or keys side by side, in the narrow format. -/
def refFlat (a : FVec Ideal S8x4096x6x256 .f32) : FVec Ideal S8x4096x1536 .bf16 :=
  truncf .bf16 (shapeCast S8x4096x1536 a shapeCasts_S8x4096x6x256_S8x4096x1536) bitsLt_bf16_f32

/-- The reference's values. -/
def refV (kv : FVec Ideal S8x4096x6x256 .f32) : FVec Ideal S8x4096x768 .bf16 :=
  truncf .bf16 (shapeCast S8x4096x768 (extractStridedSlice S8x4096x6x128 ![0, 0, 0, 128] kv slices_S8x4096x6x256_S8x4096x6x128_0_0_0_128 : FVec Ideal S8x4096x6x128 .f32) shapeCasts_S8x4096x6x128_S8x4096x768) bitsLt_bf16_f32

variable (x : FVec Ideal S8x4096x1024 .f32) (w : FVec Ideal S1024x704 .f32)

/-- The reference's projection at an entry. -/
theorem refH_apply (n : Fin 8) (s : Fin 4096) (k : Fin 704) : (refH x w (ix3 n s k) : EReal) = H x w n s k.val := by
  have f : k = Fin.ofNat 704 k.val := Fin.ext (Nat.mod_eq_of_lt k.isLt).symm
  unfold H
  rw [← f]
  pointwise [refH]

/-- The queries' normalization at an entry. -/
theorem refNq_apply (z : FVec Ideal S8x4096x256 .f32) (g : FVec Ideal S256 .f32) (n : Fin 8) (s : Fin 4096) (k : Fin 256) :
    (refNq z g (ix3 n s k) : EReal) = rms (Ideal.ofBits .f32 0x43800000#32) (fun j => z (ix3 n s j)) (fun j => g (ix1 j)) k := by
  pointwise [refNq]
  rfl

/-- The keys' and values' normalization at an entry. -/
theorem refNk_apply (z : FVec Ideal S8x4096x128 .f32) (g : FVec Ideal S128 .f32) (n : Fin 8) (s : Fin 4096) (k : Fin 128) :
    (refNk z g (ix3 n s k) : EReal) = rms (Ideal.ofBits .f32 0x43000000#32) (fun j => z (ix3 n s j)) (fun j => g (ix1 j)) k := by
  pointwise [refNk]
  rfl

/-- The reference's scaled queries at an entry. -/
theorem refQ_apply (g : FVec Ideal S256 .f32) (u : FVec Ideal S256x1152 .f32) (n : Fin 8) (s : Fin 4096) (h : Fin 6) (d : Fin 192) :
    (refQ (refH x w) g u (ix4 n s h d) : EReal) = Qv (H x w n s) g u (h.val * 192 + d.val) := by
  have e (j : Fin 256) : ((extractStridedSlice S8x4096x256 ![0, 0, 256] (refH x w) slices_S8x4096x704_S8x4096x256_0_0_256 : FVec Ideal S8x4096x256 .f32) (ix3 n s j) : EReal)
      = H x w n s (256 + j.val) := by
    refine Eq.trans ?_ (refH_apply x w n s ⟨256 + j.val, by omega⟩)
    pointwise
  have f : (⟨h.val * 192 + d.val, by omega⟩ : Fin 1152) = Fin.ofNat 1152 (h.val * 192 + d.val) := Fin.ext (Nat.mod_eq_of_lt (by omega)).symm
  pointwise [refQ]
  unfold Qv
  rw [← f]
  refine congrArg (· * _) (Finset.sum_congr rfl fun j _ => congrArg (· * _) ?_)
  rw [refNq_apply]
  simp only [e]

/-- The reference's keys and values at an entry. -/
theorem refKV_apply (g : FVec Ideal S128 .f32) (u : FVec Ideal S128x1536 .f32) (n : Fin 8) (s : Fin 4096) (h : Fin 6) (d : Fin 256) :
    (refKV (refH x w) g u (ix4 n s h d) : EReal) = KVv (H x w n s) g u (h.val * 256 + d.val) := by
  have e (j : Fin 128) : ((extractStridedSlice S8x4096x128 ![0, 0, 512] (refH x w) slices_S8x4096x704_S8x4096x128_0_0_512 : FVec Ideal S8x4096x128 .f32) (ix3 n s j) : EReal)
      = H x w n s (512 + j.val) := by
    refine Eq.trans ?_ (refH_apply x w n s ⟨512 + j.val, by omega⟩)
    pointwise
  have f : (⟨h.val * 256 + d.val, by omega⟩ : Fin 1536) = Fin.ofNat 1536 (h.val * 256 + d.val) := Fin.ext (Nat.mod_eq_of_lt (by omega)).symm
  pointwise [refKV]
  unfold KVv
  rw [← f]
  refine Finset.sum_congr rfl fun j _ => congrArg (· * _) ?_
  rw [refNk_apply]
  simp only [e]

/-- The rotated key of one row `h` of the projection, at column `d`. -/
def rotAt (h : ℕ → EReal) (co si : Fin 32 → EReal) (d : ℕ) : EReal :=
  if d < 32 then h (640 + d) * co (Fin.ofNat 32 d) - h (672 + d) * si (Fin.ofNat 32 d)
  else h (640 + d) * co (Fin.ofNat 32 d) + h (608 + d) * si (Fin.ofNat 32 d)

/-- The first half of a rotated key. -/
theorem rotAt_lo (h : ℕ → EReal) (co si : Fin 32 → EReal) {d a b : ℕ} {k : Fin 32} (hd : d < 32) (ea : a = 640 + d) (eb : b = 672 + d) (ek : k.val = d) :
    h a * co k - h b * si k = rotAt h co si d := by
  rw [rotAt, if_pos hd, ea, eb, Fin.ext (show k.val = (Fin.ofNat 32 d).val from ek.trans (Nat.mod_eq_of_lt hd).symm)]

/-- The second half of a rotated key. -/
theorem rotAt_hi (h : ℕ → EReal) (co si : Fin 32 → EReal) {d a b : ℕ} {k : Fin 32} (hd : 32 ≤ d ∧ d < 64) (ea : a = 640 + d) (eb : b + 32 = 640 + d) (ek : k.val + 32 = d) :
    h a * co k + h b * si k = rotAt h co si d := by
  have e : k = Fin.ofNat 32 d := Fin.ext (show k.val = d % 32 by omega)
  have e' : b = 608 + d := by omega
  rw [rotAt, if_neg (by omega), ea, e', e]

/-- A query at a plain column. -/
theorem qAt_0 (q t : ℕ → EReal) {c a : ℕ} (h : c % 256 < 128) (e : a = colQ c) : q a = qAt q t c := by
  rw [qAt, if_pos h, e]

/-- A query at a column of the rotation's cosine products. -/
theorem qAt_1 (q : ℕ → EReal) (co si : Fin 32 → EReal) {c a : ℕ} {d : Fin 32} (h : 128 ≤ c % 256 ∧ c % 256 < 192) (e : a = colQ c) (e' : d.val = c % 32) :
    q a * co d = qAt q (Ta co si) c := by
  rw [qAt, if_neg (by omega), e, Ta_0 co si (d := c % 256 - 128) (a := d) (by omega) (by omega)]

/-- A query at a column of the rotation's negated sine products. -/
theorem qAt_2 (q : ℕ → EReal) (co si : Fin 32 → EReal) {c a : ℕ} {d : Fin 32} (h : 192 ≤ c % 256 ∧ c % 256 < 224) (e : a = colQ c) (e' : d.val = c % 32) :
    -(q a * si d) = qAt q (Ta co si) c := by
  rw [qAt, if_neg (by omega), e, ← Ta_1 co si (d := c % 256 - 128) (a := d) (by omega) (by omega), mul_neg]

/-- A query at a column of the rotation's sine products. -/
theorem qAt_3 (q : ℕ → EReal) (co si : Fin 32 → EReal) {c a : ℕ} {d : Fin 32} (h : 224 ≤ c % 256) (e : a = colQ c) (e' : d.val = c % 32) :
    q a * si d = qAt q (Ta co si) c := by
  rw [qAt, if_neg (by omega), e, Ta_2 co si (d := c % 256 - 128) (a := d) (by omega) (by omega)]

/-- A key at a plain column. -/
theorem kAt_0 (kv h ta tb : ℕ → EReal) {c a : ℕ} (hc : c % 256 < 128) (e : a = c) : kv a = kAt kv h ta tb c := by
  rw [kAt, if_pos hc, e]

/-- A key at a column of the rotated key, which stands there twice. -/
theorem kAt_1 (kv h : ℕ → EReal) (co si : Fin 32 → EReal) {c d : ℕ} (hc : 128 ≤ c % 256) (e : d = (c % 256 - 128) % 64) :
    rotAt h co si d = kAt kv h (Ta co si) (Tb co si) c := by
  have ed : (Fin.ofNat 32 d).val = (c % 256 - 128) % 32 := (show d % 32 = (c % 256 - 128) % 32 by omega)
  rw [kAt, if_neg (by omega), rotAt]
  by_cases h1 : c % 256 - 128 < 32
  · rw [if_pos (by omega), ← Ta_0 co si (d := c % 256 - 128) (by omega) ed, ← Tb_0 co si (d := c % 256 - 128) (by omega) ed,
      show colIn (640 + (c % 256 - 128)) = 640 + d by unfold colIn; split_ifs <;> omega,
      show colIn (768 + (c % 256 - 128)) = 672 + d by unfold colIn; split_ifs <;> omega, mul_neg, sub_eq_add_neg]
  by_cases h2 : c % 256 - 128 < 64
  · rw [if_neg (by omega), ← Ta_0 co si (d := c % 256 - 128) (by omega) ed, ← Tb_1 co si (d := c % 256 - 128) (by omega) ed,
      show colIn (640 + (c % 256 - 128)) = 640 + d by unfold colIn; split_ifs <;> omega,
      show colIn (768 + (c % 256 - 128)) = 608 + d by unfold colIn; split_ifs <;> omega]
  by_cases h3 : c % 256 - 128 < 96
  · rw [if_pos (by omega), ← Ta_1 co si (d := c % 256 - 128) (by omega) ed, ← Tb_2 co si (d := c % 256 - 128) (by omega) ed,
      show colIn (640 + (c % 256 - 128)) = 672 + d by unfold colIn; split_ifs <;> omega,
      show colIn (768 + (c % 256 - 128)) = 640 + d by unfold colIn; split_ifs <;> omega, mul_neg, sub_eq_add_neg, add_comm]
  · rw [if_neg (by omega), ← Ta_2 co si (d := c % 256 - 128) (by omega) ed, ← Tb_2 co si (d := c % 256 - 128) (by omega) ed,
      show colIn (640 + (c % 256 - 128)) = 608 + d by unfold colIn; split_ifs <;> omega,
      show colIn (768 + (c % 256 - 128)) = 640 + d by unfold colIn; split_ifs <;> omega, add_comm]

/-- The rotated key at an entry. -/
theorem refRot_apply (co si : FVec Ideal S8x4096x32 .f32) (n : Fin 8) (s : Fin 4096) (d : Fin 64) :
    (refRot (refH x w) co si (ix3 n s d) : EReal) = rotAt (H x w n s) (fun k => co (ix3 n s k)) (fun k => si (ix3 n s k)) d.val := by
  pointwise [refRot]
  simp only [refH_apply]
  split_ifs <;> first
    | exact rotAt_lo _ (fun k => co (ix3 n s k)) (fun k => si (ix3 n s k)) (by omega) rfl rfl rfl
    | exact rotAt_hi _ (fun k => co (ix3 n s k)) (fun k => si (ix3 n s k)) (by omega) (by omega) (by omega) (by dsimp only; omega)

/-- The heads side by side, at an entry. -/
theorem refFlat_apply (a : FVec Ideal S8x4096x6x256 .f32) (n : Fin 8) (s : Fin 4096) (k : Fin 1536) :
    (refFlat a (ix3 n s k) : EReal) = a (ix4 n s ⟨k.val / 256, by omega⟩ ⟨k.val % 256, by omega⟩) := by
  pointwise [refFlat]

/-- A table, the same for each head, at an entry. -/
theorem refHeads_apply (a : FVec Ideal S8x4096x32 .f32) (n : Fin 8) (s : Fin 4096) (h : Fin 6) (k : Fin 32) :
    (refHeads a (ix4 n s h k) : EReal) = a (ix3 n s k) := by
  pointwise [refHeads]

/-- The rotated key, the same for each head, at an entry. -/
theorem refRotH_apply (a : FVec Ideal S8x4096x64 .f32) (n : Fin 8) (s : Fin 4096) (h : Fin 6) (k : Fin 64) :
    (refRotH a (ix4 n s h k) : EReal) = a (ix3 n s k) := by
  pointwise [refRotH]

/-- The reference's query by heads at an entry. -/
theorem refQ5_apply (q : FVec Ideal S8x4096x6x192 .f32) (co si : FVec Ideal S8x4096x32 .f32) (Q : ℕ → EReal) (n : Fin 8) (s : Fin 4096)
    (hq : ∀ (h : Fin 6) (d : Fin 192), q (ix4 n s h d) = Q (h.val * 192 + d.val)) (h : Fin 6) (d : Fin 256) :
    (refQ5 q co si (ix4 n s h d) : EReal) = qAt Q (Ta (fun k => co (ix3 n s k)) (fun k => si (ix3 n s k))) (h.val * 256 + d.val) := by
  pointwise [refQ5]
  simp only [hq, refHeads_apply]
  split_ifs <;> first
    | exact qAt_0 Q _ (by omega) (by unfold colQ; split_ifs <;> omega)
    | exact qAt_1 Q (fun k => co (ix3 n s k)) (fun k => si (ix3 n s k)) (by omega) (by unfold colQ; split_ifs <;> omega) (by first | omega | (dsimp only; omega))
    | exact qAt_2 Q (fun k => co (ix3 n s k)) (fun k => si (ix3 n s k)) (by omega) (by unfold colQ; split_ifs <;> omega) (by first | omega | (dsimp only; omega))
    | exact qAt_3 Q (fun k => co (ix3 n s k)) (fun k => si (ix3 n s k)) (by omega) (by unfold colQ; split_ifs <;> omega) (by first | omega | (dsimp only; omega))

/-- The reference's key by heads at an entry. -/
theorem refK3_apply (kv : FVec Ideal S8x4096x6x256 .f32) (r : FVec Ideal S8x4096x64 .f32) (K h : ℕ → EReal) (co si : Fin 32 → EReal) (n : Fin 8) (s : Fin 4096)
    (hk : ∀ (h : Fin 6) (d : Fin 256), kv (ix4 n s h d) = K (h.val * 256 + d.val)) (hr : ∀ d : Fin 64, r (ix3 n s d) = rotAt h co si d.val) (g : Fin 6) (d : Fin 256) :
    (refK3 kv r (ix4 n s g d) : EReal) = kAt K h (Ta co si) (Tb co si) (g.val * 256 + d.val) := by
  pointwise [refK3]
  simp only [hk, refRotH_apply, hr]
  split_ifs <;> first
    | exact kAt_0 K _ _ _ (by omega) (by omega)
    | exact kAt_1 K h co si (by omega) (by omega)

/-- The reference's value at an entry. -/
theorem refV_apply (kv : FVec Ideal S8x4096x6x256 .f32) (n : Fin 8) (s : Fin 4096) (k : Fin 768) :
    (refV kv (ix3 n s k) : EReal) = kv (ix4 n s ⟨k.val / 128, by omega⟩ ⟨128 + k.val % 128, by omega⟩) := by
  pointwise [refV]

end Reference

end Cert.Proof.Mix
-- ==== Proof.MixPoolRef.lean ====
module

public import proofs.«01_k».proof.Proof.MixPool
public import proofs.«01_k».proof.Proof.MixRef

@[expose] public section

/-!
The reference's pooled result, in stages, and what its stages are at an entry.
-/

set_option maxRecDepth 16384
set_option maxHeartbeats 4000000

noncomputable section

namespace Cert.Proof.Mix

open Idealize.ShloMosaic Idealize.ShloMosaic.TcCoe Idealize.SL.Sem
open Idealize.ShloMosaic.Pipeline (Dat)

section Reference
open Cert.MixRefIdeal Cert.MixRefIdeal.Gen

/-- The reference's share of the pool, 16 rows of zeros before it. -/
def refPad (h : FVec Ideal S8x4096x704 .f32) : FVec Ideal S8x4112x256 .f32 :=
  concatenate S8x4112x256 1 [⟨S8x16x256, (broadcastInDim S8x16x256 ![] bcast_S_S8x16x256 (constant S_ .f32 0x00000000#32) : FVec Ideal S8x16x256 .f32)⟩, ⟨S8x4096x256, (extractStridedSlice S8x4096x256 ![0, 0, 0] h slices_S8x4096x704_S8x4096x256_0_0_0 : FVec Ideal S8x4096x256 .f32)⟩] concatenates_S8x16x256_S8x4096x256_S8x4112x256_d1

/-- The reference's mean of the last 2 rows. -/
def refMean2 (P : FVec Ideal S8x4112x64 .f32) : FVec Ideal S8x4096x64 .f32 :=
  Host.divf (addf (extractStridedSlice S8x4096x64 ![0, 16, 0] P slices_S8x4112x64_S8x4096x64_0_16_0) (extractStridedSlice S8x4096x64 ![0, 15, 0] P slices_S8x4112x64_S8x4096x64_0_15_0))
    (broadcastInDim S8x4096x64 ![0, 1, 2] bcast_S1x4096x1_S8x4096x64_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 2#32))))))

/-- The reference's mean of the last 4 rows. -/
def refMean4 (P : FVec Ideal S8x4112x64 .f32) : FVec Ideal S8x4096x64 .f32 :=
  Host.divf (addf (addf (addf (extractStridedSlice S8x4096x64 ![0, 16, 0] P slices_S8x4112x64_S8x4096x64_0_16_0) (extractStridedSlice S8x4096x64 ![0, 15, 0] P slices_S8x4112x64_S8x4096x64_0_15_0)) (extractStridedSlice S8x4096x64 ![0, 14, 0] P slices_S8x4112x64_S8x4096x64_0_14_0)) (extractStridedSlice S8x4096x64 ![0, 13, 0] P slices_S8x4112x64_S8x4096x64_0_13_0))
    (broadcastInDim S8x4096x64 ![0, 1, 2] bcast_S1x4096x1_S8x4096x64_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 4#32))))))

/-- The reference's mean of the last 8 rows. -/
def refMean8 (P : FVec Ideal S8x4112x64 .f32) : FVec Ideal S8x4096x64 .f32 :=
  Host.divf (addf (addf (addf (addf (addf (addf (addf (extractStridedSlice S8x4096x64 ![0, 16, 0] P slices_S8x4112x64_S8x4096x64_0_16_0) (extractStridedSlice S8x4096x64 ![0, 15, 0] P slices_S8x4112x64_S8x4096x64_0_15_0)) (extractStridedSlice S8x4096x64 ![0, 14, 0] P slices_S8x4112x64_S8x4096x64_0_14_0)) (extractStridedSlice S8x4096x64 ![0, 13, 0] P slices_S8x4112x64_S8x4096x64_0_13_0)) (extractStridedSlice S8x4096x64 ![0, 12, 0] P slices_S8x4112x64_S8x4096x64_0_12_0)) (extractStridedSlice S8x4096x64 ![0, 11, 0] P slices_S8x4112x64_S8x4096x64_0_11_0)) (extractStridedSlice S8x4096x64 ![0, 10, 0] P slices_S8x4112x64_S8x4096x64_0_10_0)) (extractStridedSlice S8x4096x64 ![0, 9, 0] P slices_S8x4112x64_S8x4096x64_0_9_0))
    (broadcastInDim S8x4096x64 ![0, 1, 2] bcast_S1x4096x1_S8x4096x64_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 8#32))))))

/-- The reference's mean of the last 16 rows. -/
def refMean16 (P : FVec Ideal S8x4112x64 .f32) : FVec Ideal S8x4096x64 .f32 :=
  Host.divf (addf (addf (addf (addf (addf (addf (addf (addf (addf (addf (addf (addf (addf (addf (addf (extractStridedSlice S8x4096x64 ![0, 16, 0] P slices_S8x4112x64_S8x4096x64_0_16_0) (extractStridedSlice S8x4096x64 ![0, 15, 0] P slices_S8x4112x64_S8x4096x64_0_15_0)) (extractStridedSlice S8x4096x64 ![0, 14, 0] P slices_S8x4112x64_S8x4096x64_0_14_0)) (extractStridedSlice S8x4096x64 ![0, 13, 0] P slices_S8x4112x64_S8x4096x64_0_13_0)) (extractStridedSlice S8x4096x64 ![0, 12, 0] P slices_S8x4112x64_S8x4096x64_0_12_0)) (extractStridedSlice S8x4096x64 ![0, 11, 0] P slices_S8x4112x64_S8x4096x64_0_11_0)) (extractStridedSlice S8x4096x64 ![0, 10, 0] P slices_S8x4112x64_S8x4096x64_0_10_0)) (extractStridedSlice S8x4096x64 ![0, 9, 0] P slices_S8x4112x64_S8x4096x64_0_9_0)) (extractStridedSlice S8x4096x64 ![0, 8, 0] P slices_S8x4112x64_S8x4096x64_0_8_0)) (extractStridedSlice S8x4096x64 ![0, 7, 0] P slices_S8x4112x64_S8x4096x64_0_7_0)) (extractStridedSlice S8x4096x64 ![0, 6, 0] P slices_S8x4112x64_S8x4096x64_0_6_0)) (extractStridedSlice S8x4096x64 ![0, 5, 0] P slices_S8x4112x64_S8x4096x64_0_5_0)) (extractStridedSlice S8x4096x64 ![0, 4, 0] P slices_S8x4112x64_S8x4096x64_0_4_0)) (extractStridedSlice S8x4096x64 ![0, 3, 0] P slices_S8x4112x64_S8x4096x64_0_3_0)) (extractStridedSlice S8x4096x64 ![0, 2, 0] P slices_S8x4112x64_S8x4096x64_0_2_0)) (extractStridedSlice S8x4096x64 ![0, 1, 0] P slices_S8x4112x64_S8x4096x64_0_1_0))
    (broadcastInDim S8x4096x64 ![0, 1, 2] bcast_S1x4096x1_S8x4096x64_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 16#32))))))

/-- The reference's mean of the last 2 rows, at an entry. -/
theorem refMean2_apply (P : FVec Ideal S8x4112x64 .f32) (f : ℕ → EReal) (n : Fin 8) (s : Fin 4096) (c : Fin 64) (hf : ∀ a (p : a < 4112), (P (ix3 n ⟨a, p⟩ c) : EReal) = f (16 + a)) :
    (refMean2 P (ix3 n s c) : EReal) = Ideal.div (win f (32 + s.val) 2) (cnt s.val 2) := by
  have e0 (p : 16 + s.val < 4112) : (P (ix3 n ⟨16 + s.val, p⟩ c) : EReal) = f (32 + s.val - 0) := (hf _ p).trans (congrArg f (by omega))
  have e1 (p : 15 + s.val < 4112) : (P (ix3 n ⟨15 + s.val, p⟩ c) : EReal) = f (32 + s.val - 1) := (hf _ p).trans (congrArg f (by omega))
  pointwise [refMean2]
  simp only [e0, e1, win, zero_add, cnt]

/-- The reference's mean of the last 4 rows, at an entry. -/
theorem refMean4_apply (P : FVec Ideal S8x4112x64 .f32) (f : ℕ → EReal) (n : Fin 8) (s : Fin 4096) (c : Fin 64) (hf : ∀ a (p : a < 4112), (P (ix3 n ⟨a, p⟩ c) : EReal) = f (16 + a)) :
    (refMean4 P (ix3 n s c) : EReal) = Ideal.div (win f (32 + s.val) 4) (cnt s.val 4) := by
  have e0 (p : 16 + s.val < 4112) : (P (ix3 n ⟨16 + s.val, p⟩ c) : EReal) = f (32 + s.val - 0) := (hf _ p).trans (congrArg f (by omega))
  have e1 (p : 15 + s.val < 4112) : (P (ix3 n ⟨15 + s.val, p⟩ c) : EReal) = f (32 + s.val - 1) := (hf _ p).trans (congrArg f (by omega))
  have e2 (p : 14 + s.val < 4112) : (P (ix3 n ⟨14 + s.val, p⟩ c) : EReal) = f (32 + s.val - 2) := (hf _ p).trans (congrArg f (by omega))
  have e3 (p : 13 + s.val < 4112) : (P (ix3 n ⟨13 + s.val, p⟩ c) : EReal) = f (32 + s.val - 3) := (hf _ p).trans (congrArg f (by omega))
  pointwise [refMean4]
  simp only [e0, e1, e2, e3, win, zero_add, cnt]

/-- The reference's mean of the last 8 rows, at an entry. -/
theorem refMean8_apply (P : FVec Ideal S8x4112x64 .f32) (f : ℕ → EReal) (n : Fin 8) (s : Fin 4096) (c : Fin 64) (hf : ∀ a (p : a < 4112), (P (ix3 n ⟨a, p⟩ c) : EReal) = f (16 + a)) :
    (refMean8 P (ix3 n s c) : EReal) = Ideal.div (win f (32 + s.val) 8) (cnt s.val 8) := by
  have e0 (p : 16 + s.val < 4112) : (P (ix3 n ⟨16 + s.val, p⟩ c) : EReal) = f (32 + s.val - 0) := (hf _ p).trans (congrArg f (by omega))
  have e1 (p : 15 + s.val < 4112) : (P (ix3 n ⟨15 + s.val, p⟩ c) : EReal) = f (32 + s.val - 1) := (hf _ p).trans (congrArg f (by omega))
  have e2 (p : 14 + s.val < 4112) : (P (ix3 n ⟨14 + s.val, p⟩ c) : EReal) = f (32 + s.val - 2) := (hf _ p).trans (congrArg f (by omega))
  have e3 (p : 13 + s.val < 4112) : (P (ix3 n ⟨13 + s.val, p⟩ c) : EReal) = f (32 + s.val - 3) := (hf _ p).trans (congrArg f (by omega))
  have e4 (p : 12 + s.val < 4112) : (P (ix3 n ⟨12 + s.val, p⟩ c) : EReal) = f (32 + s.val - 4) := (hf _ p).trans (congrArg f (by omega))
  have e5 (p : 11 + s.val < 4112) : (P (ix3 n ⟨11 + s.val, p⟩ c) : EReal) = f (32 + s.val - 5) := (hf _ p).trans (congrArg f (by omega))
  have e6 (p : 10 + s.val < 4112) : (P (ix3 n ⟨10 + s.val, p⟩ c) : EReal) = f (32 + s.val - 6) := (hf _ p).trans (congrArg f (by omega))
  have e7 (p : 9 + s.val < 4112) : (P (ix3 n ⟨9 + s.val, p⟩ c) : EReal) = f (32 + s.val - 7) := (hf _ p).trans (congrArg f (by omega))
  pointwise [refMean8]
  simp only [e0, e1, e2, e3, e4, e5, e6, e7, win, zero_add, cnt]

/-- The reference's mean of the last 16 rows, at an entry. -/
theorem refMean16_apply (P : FVec Ideal S8x4112x64 .f32) (f : ℕ → EReal) (n : Fin 8) (s : Fin 4096) (c : Fin 64) (hf : ∀ a (p : a < 4112), (P (ix3 n ⟨a, p⟩ c) : EReal) = f (16 + a)) :
    (refMean16 P (ix3 n s c) : EReal) = Ideal.div (win f (32 + s.val) 16) (cnt s.val 16) := by
  have e0 (p : 16 + s.val < 4112) : (P (ix3 n ⟨16 + s.val, p⟩ c) : EReal) = f (32 + s.val - 0) := (hf _ p).trans (congrArg f (by omega))
  have e1 (p : 15 + s.val < 4112) : (P (ix3 n ⟨15 + s.val, p⟩ c) : EReal) = f (32 + s.val - 1) := (hf _ p).trans (congrArg f (by omega))
  have e2 (p : 14 + s.val < 4112) : (P (ix3 n ⟨14 + s.val, p⟩ c) : EReal) = f (32 + s.val - 2) := (hf _ p).trans (congrArg f (by omega))
  have e3 (p : 13 + s.val < 4112) : (P (ix3 n ⟨13 + s.val, p⟩ c) : EReal) = f (32 + s.val - 3) := (hf _ p).trans (congrArg f (by omega))
  have e4 (p : 12 + s.val < 4112) : (P (ix3 n ⟨12 + s.val, p⟩ c) : EReal) = f (32 + s.val - 4) := (hf _ p).trans (congrArg f (by omega))
  have e5 (p : 11 + s.val < 4112) : (P (ix3 n ⟨11 + s.val, p⟩ c) : EReal) = f (32 + s.val - 5) := (hf _ p).trans (congrArg f (by omega))
  have e6 (p : 10 + s.val < 4112) : (P (ix3 n ⟨10 + s.val, p⟩ c) : EReal) = f (32 + s.val - 6) := (hf _ p).trans (congrArg f (by omega))
  have e7 (p : 9 + s.val < 4112) : (P (ix3 n ⟨9 + s.val, p⟩ c) : EReal) = f (32 + s.val - 7) := (hf _ p).trans (congrArg f (by omega))
  have e8 (p : 8 + s.val < 4112) : (P (ix3 n ⟨8 + s.val, p⟩ c) : EReal) = f (32 + s.val - 8) := (hf _ p).trans (congrArg f (by omega))
  have e9 (p : 7 + s.val < 4112) : (P (ix3 n ⟨7 + s.val, p⟩ c) : EReal) = f (32 + s.val - 9) := (hf _ p).trans (congrArg f (by omega))
  have e10 (p : 6 + s.val < 4112) : (P (ix3 n ⟨6 + s.val, p⟩ c) : EReal) = f (32 + s.val - 10) := (hf _ p).trans (congrArg f (by omega))
  have e11 (p : 5 + s.val < 4112) : (P (ix3 n ⟨5 + s.val, p⟩ c) : EReal) = f (32 + s.val - 11) := (hf _ p).trans (congrArg f (by omega))
  have e12 (p : 4 + s.val < 4112) : (P (ix3 n ⟨4 + s.val, p⟩ c) : EReal) = f (32 + s.val - 12) := (hf _ p).trans (congrArg f (by omega))
  have e13 (p : 3 + s.val < 4112) : (P (ix3 n ⟨3 + s.val, p⟩ c) : EReal) = f (32 + s.val - 13) := (hf _ p).trans (congrArg f (by omega))
  have e14 (p : 2 + s.val < 4112) : (P (ix3 n ⟨2 + s.val, p⟩ c) : EReal) = f (32 + s.val - 14) := (hf _ p).trans (congrArg f (by omega))
  have e15 (p : 1 + s.val < 4112) : (P (ix3 n ⟨1 + s.val, p⟩ c) : EReal) = f (32 + s.val - 15) := (hf _ p).trans (congrArg f (by omega))
  pointwise [refMean16]
  simp only [e0, e1, e2, e3, e4, e5, e6, e7, e8, e9, e10, e11, e12, e13, e14, e15, win, zero_add, cnt]

/-- The reference's means, group by group. -/
def refCat (P : FVec Ideal S8x4112x256 .f32) : FVec Ideal S8x4096x256 .f32 :=
  concatenate S8x4096x256 2 [⟨S8x4096x64, refMean2 (extractStridedSlice S8x4112x64 ![0, 0, 0] P slices_S8x4112x256_S8x4112x64_0_0_0)⟩,
    ⟨S8x4096x64, refMean4 (extractStridedSlice S8x4112x64 ![0, 0, 64] P slices_S8x4112x256_S8x4112x64_0_0_64)⟩,
    ⟨S8x4096x64, refMean8 (extractStridedSlice S8x4112x64 ![0, 0, 128] P slices_S8x4112x256_S8x4112x64_0_0_128)⟩,
    ⟨S8x4096x64, refMean16 (extractStridedSlice S8x4112x64 ![0, 0, 192] P slices_S8x4112x256_S8x4112x64_0_0_192)⟩] concatenates_S8x4096x64_S8x4096x64_S8x4096x64_S8x4096x64_S8x4096x256_d2

/-- The reference's pooled result from the means less the rows. -/
def refMap (d : FVec Ideal S8x4096x256 .f32) (pw : FVec Ideal S4x64x64 .f32) (ps : FVec Ideal S256 .f32) : FVec Ideal S8x4096x256 .bf16 :=
  truncf .bf16 (mulf (shapeCast S8x4096x256 (transpose S8x4096x4x64 [2, 3, 0, 1] (Host.dotGeneral dot_S4x64x64_S8x4096x4x64_S4x64x8x4096_1_3_2_01_0_2 none pw
      (shapeCast S8x4096x4x64 d shapeCasts_S8x4096x256_S8x4096x4x64) : FVec Ideal S4x64x8x4096 .f32) transposes_S4x64x8x4096_S8x4096x4x64_2_3_0_1) shapeCasts_S8x4096x4x64_S8x4096x256)
    (broadcastInDim S8x4096x256 ![0, 1, 2] bcast_S1x1x256_S8x4096x256_0_1_2 (broadcastInDim S1x1x256 ![2] bcast_S256_S1x1x256_2 ps))) bitsLt_bf16_f32

/-- The reference's pooled result. -/
def refP (h : FVec Ideal S8x4096x704 .f32) (pw : FVec Ideal S4x64x64 .f32) (ps : FVec Ideal S256 .f32) : FVec Ideal S8x4096x256 .bf16 :=
  refMap (subf (refCat (refPad h)) (extractStridedSlice S8x4096x256 ![0, 0, 0] h slices_S8x4096x704_S8x4096x256_0_0_0)) pw ps

/-- The reference's share of the pool, at an entry. -/
theorem refPad_apply (h : FVec Ideal S8x4096x704 .f32) (n : Fin 8) (a : Fin 4112) (k : Fin 256) :
    (refPad h (ix3 n a k) : EReal) = if 16 ≤ a.val then (h (ix3 n (Fin.ofNat 4096 (a.val - 16)) (Fin.ofNat 704 k.val)) : EReal) else 0 := by
  pointwise [refPad]
  by_cases h0 : a.val < 16
  · exact (dif_pos h0).trans (if_neg (by omega)).symm
  · refine (dif_neg h0).trans (Eq.trans ?_ (if_pos (by omega)).symm)
    congr 2
    · exact Fin.ext (show a.val - 16 = (a.val - 16) % 4096 by omega)
    · exact Fin.ext (show k.val = k.val % 704 by omega)

/-- The reference's means, at an entry. -/
theorem refCat_apply (P : FVec Ideal S8x4112x256 .f32) (f : ℕ → ℕ → EReal) (n : Fin 8) (s : Fin 4096) (k : Fin 256) (hf : ∀ a (p : a < 4112) (x : Fin 256), (P (ix3 n ⟨a, p⟩ x) : EReal) = f x.val (16 + a)) :
    (refCat P (ix3 n s k) : EReal) = Ideal.div (win (f k.val) (32 + s.val) (2 ^ (k.val / 64 + 1))) (cnt s.val (2 ^ (k.val / 64 + 1))) := by
  pointwise [refCat]
  by_cases h0 : k.val < 64
  · rw [dif_pos h0]
    refine (refMean2_apply _ (f k.val) n s _ fun a p => ?_).trans (by rw [show k.val / 64 = 0 by omega] <;> rfl)
    pointwise
    exact (hf a p ⟨_, _⟩).trans (congrArg (fun z => f z (16 + a)) (by first | rfl | (dsimp only; omega)))
  by_cases h1 : k.val - 64 < 64
  · rw [dif_neg h0, dif_pos h1]
    refine (refMean4_apply _ (f k.val) n s _ fun a p => ?_).trans (by rw [show k.val / 64 = 1 by omega] <;> rfl)
    pointwise
    exact (hf a p ⟨_, _⟩).trans (congrArg (fun z => f z (16 + a)) (by first | rfl | (dsimp only; omega)))
  by_cases h2 : k.val - 64 - 64 < 64
  · rw [dif_neg h0, dif_neg h1, dif_pos h2]
    refine (refMean8_apply _ (f k.val) n s _ fun a p => ?_).trans (by rw [show k.val / 64 = 2 by omega] <;> rfl)
    pointwise
    exact (hf a p ⟨_, _⟩).trans (congrArg (fun z => f z (16 + a)) (by first | rfl | (dsimp only; omega)))
  · rw [dif_neg h0, dif_neg h1, dif_neg h2]
    refine (refMean16_apply _ (f k.val) n s _ fun a p => ?_).trans (by rw [show k.val / 64 = 3 by omega] <;> rfl)
    pointwise
    exact (hf a p ⟨_, _⟩).trans (congrArg (fun z => f z (16 + a)) (by first | rfl | (dsimp only; omega)))

/-- The reference's last product, at an entry. -/
theorem refMap_apply (d : FVec Ideal S8x4096x256 .f32) (pw : FVec Ideal S4x64x64 .f32) (ps : FVec Ideal S256 .f32) (n : Fin 8) (s : Fin 4096) (k : Fin 256) :
    (refMap d pw ps (ix3 n s k) : EReal) = (∑ c : Fin 64, (pw (ix3 ⟨k.val / 64, by omega⟩ c ⟨k.val % 64, by omega⟩) : EReal) * d (ix3 n s ⟨k.val / 64 * 64 + c.val, by omega⟩)) * ps (ix1 k) := by
  pointwise [refMap]

/-- The reference's pooled result, by its stages' entries. -/
theorem ref_p (x : FVec Ideal S8x4096x1024 .f32) (w : FVec Ideal S1024x704 .f32) (pw : FVec Ideal S4x64x64 .f32) (ps : FVec Ideal S256 .f32) :
    refP (refH x w) pw ps = Gp x w pw ps := by
  funext i
  idx_vars i
  refine (refMap_apply _ pw ps i0 i1 i2).trans ?_
  show _ = (∑ c : Fin 64, pw (ix3 (Fin.ofNat 4 (i2.val / 64)) c (Fin.ofNat 64 (i2.val % 64))) * poolD x w i0 i1 (i2.val / 64 * 64 + c.val)) * ps (ix1 i2)
  refine congrArg (· * _) (Finset.sum_congr rfl fun c _ => ?_)
  have hf : ∀ a (p : a < 4112) (k : Fin 256), (refPad (refH x w) (ix3 i0 ⟨a, p⟩ k) : EReal) = Hs x w i0 k.val (16 + a) := by
    intro a p k
    rw [refPad_apply, Hs]
    by_cases h : 16 ≤ a
    · rw [if_pos h, if_pos (by omega), refH_apply]
      congr 1
      · exact Fin.ext (show (a - 16) % 4096 = (16 + a - 32) % 4096 by omega)
      · exact Nat.mod_eq_of_lt (by omega)
    · rw [if_neg h, if_neg (by omega)]
  have e : (subf (refCat (refPad (refH x w))) (extractStridedSlice S8x4096x256 ![0, 0, 0] (refH x w) slices_S8x4096x704_S8x4096x256_0_0_0) (ix3 i0 i1 ⟨i2.val / 64 * 64 + c.val, by omega⟩) : EReal)
      = poolD x w i0 i1 (i2.val / 64 * 64 + c.val) := by
    have e1 : (extractStridedSlice S8x4096x256 ![0, 0, 0] (refH x w) slices_S8x4096x704_S8x4096x256_0_0_0 (ix3 i0 i1 ⟨i2.val / 64 * 64 + c.val, by omega⟩) : EReal) = refH x w (ix3 i0 i1 ⟨i2.val / 64 * 64 + c.val, by omega⟩) := by
      pointwise
    refine (congrArg₂ (fun a b : EReal => a - b) (refCat_apply _ (Hs x w i0) i0 i1 ⟨i2.val / 64 * 64 + c.val, by omega⟩ hf) (e1.trans (refH_apply x w i0 i1 _))).trans rfl
  rw [e]
  refine congrArg (· * _) (congrArg _ ?_)
  congr 1
  · exact Fin.ext (show i2.val / 64 = i2.val / 64 % 4 by omega)
  · exact Fin.ext (show i2.val % 64 = i2.val % 64 % 64 by omega)

end Reference

end Cert.Proof.Mix
-- ==== Proof.Mix.lean ====
module

public import proofs.«01_k».proof.Proof.MixPoolRef
public import proofs.«01_k».proof.Defs

@[expose] public section

/-!
The call that projects the layer's input: its pooled, query, key and value results are the reference's over the extended reals.
-/

set_option maxRecDepth 16384
set_option maxHeartbeats 4000000

noncomputable section

namespace Cert.Proof.Mix

open Idealize.ShloMosaic Idealize.ShloMosaic.TcCoe Idealize.SL.Sem
open Idealize.ShloMosaic.Pipeline (Dat)

section Reference
open Cert.MixRefIdeal Cert.MixRefIdeal.Gen

/-- The reference's query result, by its stages' entries. -/
theorem ref_q (x : FVec Ideal S8x4096x1024 .f32) (co si : FVec Ideal S8x4096x32 .f32) (w : FVec Ideal S1024x704 .f32) (g : FVec Ideal S256 .f32) (u : FVec Ideal S256x1152 .f32) :
    refFlat (refQ5 (refQ (refH x w) g u) co si) = Gq x co si w g u := by
  funext i
  idx_vars i
  have e : i2.val / 256 * 256 + i2.val % 256 = i2.val := by omega
  refine (refFlat_apply _ _ _ _).trans ((refQ5_apply _ co si (Qv (H x w i0 i1) g u) i0 i1 (fun h d => refQ_apply x w g u i0 i1 h d) _ _).trans ?_)
  exact congrArg (qAt (Qv (H x w i0 i1) g u) (Ta (fun k => co (ix3 i0 i1 k)) (fun k => si (ix3 i0 i1 k)))) e

/-- The reference's key result, by its stages' entries. -/
theorem ref_k (x : FVec Ideal S8x4096x1024 .f32) (co si : FVec Ideal S8x4096x32 .f32) (w : FVec Ideal S1024x704 .f32) (g : FVec Ideal S128 .f32) (u : FVec Ideal S128x1536 .f32) :
    refFlat (refK3 (refKV (refH x w) g u) (refRot (refH x w) co si)) = Gk x co si w g u := by
  funext i
  idx_vars i
  have e : i2.val / 256 * 256 + i2.val % 256 = i2.val := by omega
  refine (refFlat_apply _ _ _ _).trans ((refK3_apply _ _ (KVv (H x w i0 i1) g u) (H x w i0 i1) (fun k => co (ix3 i0 i1 k)) (fun k => si (ix3 i0 i1 k)) i0 i1
    (fun h d => refKV_apply x w g u i0 i1 h d) (fun d => refRot_apply x w co si i0 i1 d) _ _).trans ?_)
  exact congrArg (kAt (KVv (H x w i0 i1) g u) (H x w i0 i1) (Ta (fun k => co (ix3 i0 i1 k)) (fun k => si (ix3 i0 i1 k))) (Tb (fun k => co (ix3 i0 i1 k)) (fun k => si (ix3 i0 i1 k)))) e

/-- The reference's value result, by its stages' entries. -/
theorem ref_v (x : FVec Ideal S8x4096x1024 .f32) (w : FVec Ideal S1024x704 .f32) (g : FVec Ideal S128 .f32) (u : FVec Ideal S128x1536 .f32) :
    refV (refKV (refH x w) g u) = Gv x w g u := by
  funext i
  idx_vars i
  have e : i2.val / 128 * 256 + (128 + i2.val % 128) = colV i2.val := by unfold colV; omega
  refine (refV_apply _ _ _ _).trans ((refKV_apply x w g u i0 i1 _ _).trans ?_)
  exact congrArg (KVv (H x w i0 i1) g u) e

end Reference

/-- Kernel and reference, run from the same arguments over the extended reals, leave the same pooled result, queries, keys and values. -/
theorem algebraic : Cert.algebraic_MixIdeal_MixRefIdeal := by
  pair_intro
  · run_from Cert.MixIdeal.Gen.run_main m g
  · run_from Cert.MixRefIdeal.Value.run m' g'
    · obtain ⟨h0, h1, h2, h3, h4, h5, h6, h7, h8, h9⟩ := hagree c
      refine Eq.trans (b := refP (refH (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg3))) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5))) (by (try simp only [← h0, ← h1, ← h2, ← h3, ← h4, ← h5, ← h6, ← h7, ← h8, ← h9]); rfl) ?_
      rw [h0, h3, h4, h5]
      exact (ref_p _ _ _ _).trans (final10 m c).symm
    · obtain ⟨h0, h1, h2, h3, h4, h5, h6, h7, h8, h9⟩ := hagree c
      refine Eq.trans (b := refFlat (refQ5 (refQ (refH (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg3))) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7))) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)))) (by (try simp only [← h0, ← h1, ← h2, ← h3, ← h4, ← h5, ← h6, ← h7, ← h8, ← h9]); rfl) ?_
      rw [h0, h1, h2, h3, h6, h7]
      exact (ref_q _ _ _ _ _ _).trans (final11 m c).symm
    · obtain ⟨h0, h1, h2, h3, h4, h5, h6, h7, h8, h9⟩ := hagree c
      refine Eq.trans (b := refFlat (refK3 (refKV (refH (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg3))) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9))) (refRot (refH (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg3))) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2))))) (by (try simp only [← h0, ← h1, ← h2, ← h3, ← h4, ← h5, ← h6, ← h7, ← h8, ← h9]); rfl) ?_
      rw [h0, h1, h2, h3, h8, h9]
      exact (ref_k _ _ _ _ _ _).trans (final12 m c).symm
    · obtain ⟨h0, h1, h2, h3, h4, h5, h6, h7, h8, h9⟩ := hagree c
      refine Eq.trans (b := refV (refKV (refH (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg3))) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)))) (by (try simp only [← h0, ← h1, ← h2, ← h3, ← h4, ← h5, ← h6, ← h7, ← h8, ← h9]); rfl) ?_
      rw [h0, h3, h8, h9]
      exact (ref_v _ _ _ _).trans (final13 m c).symm

end Cert.Proof.Mix
-- ==== Proof.Online.lean ====
module

public import proofs.«01_k».proof.Proof.Softmax

@[expose] public section

/-!
A softmax over 4096 keys taken in blocks of 512: the running maximum, sum and weighted sum after each block.
-/

noncomputable section

namespace Cert.Proof.Online

open Idealize.ShloMosaic

/-- The keys of the first `n` blocks. -/
def keys (n : ℕ) : Finset (Fin 4096) := Finset.univ.filter fun j => j.val < 512 * n

/-- The place of entry `c` of block `n` among the keys. -/
def place (n : Fin 8) (c : Fin 512) : Fin 4096 := ⟨512 * n.val + c.val, by omega⟩

/-- Distinct entries of a block are distinct keys. -/
theorem place_injective (n : Fin 8) : Function.Injective (place n) := fun a b h => by
  have := congrArg Fin.val h
  simp only [place] at this
  exact Fin.ext (by omega)

/-- The keys of block `n`, in order. -/
def key (n : Fin 8) : Fin 512 ↪ Fin 4096 := ⟨place n, place_injective n⟩

/-- The place of a key. -/
theorem key_val (n : Fin 8) (c : Fin 512) : (key n c).val = 512 * n.val + c.val := rfl

/-- No key lies before the first block. -/
theorem keys_zero : keys 0 = ∅ := by
  simp [keys]

/-- One more block. -/
theorem keys_succ (n : Fin 8) : keys (n.val + 1) = keys n.val ∪ Finset.univ.map (key n) := by
  ext j
  simp only [keys, Finset.mem_filter, Finset.mem_univ, true_and, Finset.mem_union, Finset.mem_map]
  constructor
  · intro h
    by_cases h1 : j.val < 512 * n.val
    · exact Or.inl h1
    · exact Or.inr ⟨⟨j.val - 512 * n.val, by omega⟩, Fin.ext (by rw [key_val]; simp only; omega)⟩
  · rintro (h | ⟨c, rfl⟩)
    · omega
    · rw [key_val]; omega

/-- A block has no key of the blocks before it. -/
theorem keys_disjoint (n : Fin 8) : Disjoint (keys n.val) (Finset.univ.map (key n)) := by
  rw [Finset.disjoint_left]
  intro j h h'
  simp only [keys, Finset.mem_filter, Finset.mem_univ, true_and] at h
  obtain ⟨c, -, rfl⟩ := Finset.mem_map.mp h'
  rw [key_val] at h
  omega

/-- The running maximum after a further block. -/
theorem sup_step (s : Fin 4096 → EReal) (n : Fin 8) :
    max ((keys n.val).sup s) (Finset.univ.sup fun c => s (key n c)) = (keys (n.val + 1)).sup s := by
  rw [keys_succ, Finset.sup_union, Finset.sup_map]
  rfl

/-- The running maximum never falls. -/
theorem sup_le (s : Fin 4096 → EReal) (n : Fin 8) : (keys n.val).sup s ≤ (keys (n.val + 1)).sup s := by
  rw [← sup_step]
  exact le_max_left _ _

/-- No running maximum is `⊤` when no score is. -/
theorem sup_ne_top (s : Fin 4096 → EReal) (hs : ∀ j, s j ≠ ⊤) (n : ℕ) : (keys n).sup s ≠ ⊤ :=
  ((Finset.sup_lt_iff (by simp)).mpr fun j _ => lt_top_iff_ne_top.mpr (hs j)).ne

/-- The running weighted sum after a further block: the old one rescaled to the new maximum, and the block's. -/
theorem sum_step (s v : Fin 4096 → EReal) (hs : ∀ j, s j ≠ ⊤) (n : Fin 8) :
    Ideal.exp ((keys n.val).sup s - (keys (n.val + 1)).sup s) * (∑ j ∈ keys n.val, Ideal.exp (s j - (keys n.val).sup s) * v j)
        + ∑ c, Ideal.exp (s (key n c) - (keys (n.val + 1)).sup s) * v (key n c)
      = ∑ j ∈ keys (n.val + 1), Ideal.exp (s j - (keys (n.val + 1)).sup s) * v j := by
  rw [rescale_sum _ _ _ _ (sup_le s n) (sup_ne_top s hs _)]
  generalize (keys (n.val + 1)).sup s = M
  rw [keys_succ, Finset.sum_union (keys_disjoint n), Finset.sum_map]

/-- The running sum after a further block. -/
theorem sum_step_one (s : Fin 4096 → EReal) (hs : ∀ j, s j ≠ ⊤) (n : Fin 8) :
    Ideal.exp ((keys n.val).sup s - (keys (n.val + 1)).sup s) * (∑ j ∈ keys n.val, Ideal.exp (s j - (keys n.val).sup s))
        + ∑ c, Ideal.exp (s (key n c) - (keys (n.val + 1)).sup s)
      = ∑ j ∈ keys (n.val + 1), Ideal.exp (s j - (keys (n.val + 1)).sup s) := by
  simpa using sum_step s (fun _ => 1) hs n

/-- Keys whose score is `⊥` do not count in the maximum. -/
theorem sup_all (s : Fin 4096 → EReal) (n : ℕ) (h : ∀ j, j ∉ keys n → s j = ⊥) : (keys n).sup s = Finset.univ.sup s := by
  refine le_antisymm (Finset.sup_mono (Finset.subset_univ _)) (Finset.sup_le fun j _ => ?_)
  by_cases hj : j ∈ keys n
  · exact Finset.le_sup hj
  · rw [h j hj]; exact bot_le

/-- Nor in the weighted sum. -/
theorem sum_all (s v : Fin 4096 → EReal) (M : EReal) (n : ℕ) (h : ∀ j, j ∉ keys n → s j = ⊥) :
    ∑ j ∈ keys n, Ideal.exp (s j - M) * v j = ∑ j, Ideal.exp (s j - M) * v j := by
  refine Finset.sum_subset (Finset.subset_univ _) fun j _ hj => ?_
  rw [h j hj]; simp

/-- Nor in the sum. -/
theorem sum_all_one (s : Fin 4096 → EReal) (M : EReal) (n : ℕ) (h : ∀ j, j ∉ keys n → s j = ⊥) :
    ∑ j ∈ keys n, Ideal.exp (s j - M) = ∑ j, Ideal.exp (s j - M) := by
  simpa using sum_all s (fun _ => 1) M n h

/-- The scores matter only on the keys taken: maximum. -/
theorem sup_congr (s s' : Fin 4096 → EReal) (n : ℕ) (h : ∀ j ∈ keys n, s j = s' j) : (keys n).sup s = (keys n).sup s' :=
  Finset.sup_congr rfl h

end Cert.Proof.Online
-- ==== Proof.AttnKernel.lean ====
module

public import proofs.«01_k».proof.Proof.Gen.KernelIdeal.Value

public import Idealize.ShloMosaic.Lib.Pipeline.ValueKit
public import Idealize.ShloMosaic.Lib.Tactic.CleanTypes
public import proofs.«01_k».proof.Proof.Online
public import proofs.«01_k».proof.Proof.Finite
public import proofs.«01_k».proof.Defs

@[expose] public section

/-!
The attention with its block-causal mask: the kernel's online softmax over the blocks of keys up to the query's own is
the reference's softmax over all keys, when the queries and the keys are real.
-/

set_option maxRecDepth 16384

noncomputable section

namespace Cert.Proof.Attn

open Idealize.ShloMosaic Idealize.ShloMosaic.TcCoe Idealize.SL.Sem
open Idealize.ShloMosaic.Pipeline (Dat)
open Cert.Proof.Online

section Kernel

open Cert.KernelIdeal Cert.KernelIdeal.Gen

/-- The score of query row `r` of a block against key row `c` of another. -/
def sc (q k : Vec Ideal S1x512x256 .bf16) (r c : Fin 512) : EReal := ∑ d : Fin 256, q (ix3 0 r d) * k (ix3 0 c d)

/-- The scores of one trip. -/
theorem pay6_apply (q k : Vec Ideal S1x512x256 .bf16) (r c : Fin 512) : k0_pay6 (F := Ideal) q k (ix2 r c) = sc q k r c := by
  pointwise [k0_pay6, k0_pay2]
  rfl

/-- The new maximum of one trip. -/
theorem pay7_apply (q k : Vec Ideal S1x512x256 .bf16) (M : FVec Ideal S512x1 .f32) (r : Fin 512) :
    k0_pay7 (F := Ideal) q M k (ix2 r 0) = max (M (ix2 r 0)) (Finset.univ.sup (sc q k r)) := by
  pointwise [k0_pay7]
  rw [ofBits_ninf]
  simp only [fold_max_bot, pay6_apply]

/-- The factor that rescales the running sums. -/
theorem pay8_apply (q k : Vec Ideal S1x512x256 .bf16) (M : FVec Ideal S512x1 .f32) (r : Fin 512) :
    k0_pay8 (F := Ideal) q M k (ix2 r 0) = Ideal.exp (M (ix2 r 0) - k0_pay7 (F := Ideal) q M k (ix2 r 0)) := by
  pointwise [k0_pay8]

/-- The exponentials of one trip. -/
theorem pay9_apply (q k : Vec Ideal S1x512x256 .bf16) (M : FVec Ideal S512x1 .f32) (r c : Fin 512) :
    k0_pay9 (F := Ideal) q M k (ix2 r c) = Ideal.exp (sc q k r c - k0_pay7 (F := Ideal) q M k (ix2 r 0)) := by
  pointwise [k0_pay9]
  rw [pay6_apply]

/-- The new sum of one trip. -/
theorem pay10_apply (q k : Vec Ideal S1x512x256 .bf16) (M L : FVec Ideal S512x1 .f32) (r : Fin 512) :
    k0_pay10 (F := Ideal) q M L k (ix2 r 0) = Ideal.exp (M (ix2 r 0) - k0_pay7 (F := Ideal) q M k (ix2 r 0)) * L (ix2 r 0)
      + ∑ c, Ideal.exp (sc q k r c - k0_pay7 (F := Ideal) q M k (ix2 r 0)) := by
  pointwise [k0_pay10]
  simp only [pay8_apply, pay9_apply]

/-- The new weighted sum of one trip. -/
theorem pay11_apply (q k : Vec Ideal S1x512x256 .bf16) (M : FVec Ideal S512x1 .f32) (A : FVec Ideal S512x128 .f32) (v : Vec Ideal S1x512x128 .bf16)
    (r : Fin 512) (d : Fin 128) :
    k0_pay11 (F := Ideal) q M A k v (ix2 r d) = Ideal.exp (M (ix2 r 0) - k0_pay7 (F := Ideal) q M k (ix2 r 0)) * A (ix2 r d)
      + ∑ c, Ideal.exp (sc q k r c - k0_pay7 (F := Ideal) q M k (ix2 r 0)) * v (ix3 0 c d) := by
  pointwise [k0_pay11]
  simp only [pay8_apply, pay9_apply]

/-- The maximum starts at `⊥`. -/
theorem pay3_apply (r : Fin 512) : k0_pay3 (F := Ideal) (ix2 r 0) = ⊥ := by
  pointwise [k0_pay3]
  rfl

/-- The sum starts at zero. -/
theorem pay4_apply (r : Fin 512) : k0_pay4 (F := Ideal) (ix2 r 0) = 0 := by
  pointwise [k0_pay4]

/-- The weighted sum starts at zero. -/
theorem pay5_apply (r : Fin 512) (d : Fin 128) : k0_pay5 (F := Ideal) (ix2 r d) = 0 := by
  pointwise [k0_pay5]

/-- The kernel's floor division of a row number by 64, on words. -/
def chunkWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- It is the quotient. -/
theorem chunkWord_eq : ∀ r : Fin 512, chunkWord (BitVec.ofNat 32 r.val) = BitVec.ofNat 32 (r.val / 64) := by
  decide +kernel

/-- Two small words compare as their numbers. -/
theorem sge_eq : ∀ a b : Fin 64, IntOp.cmpi CmpIPredicate.sge (BitVec.ofNat 32 a.val) (BitVec.ofNat 32 b.val) = if b.val ≤ a.val then 1#1 else 0#1 := by
  decide +kernel

/-- The last step's scores: those of the row's own chunk of 64 and of the chunks before it. -/
theorem pay22_apply (S : FVec Ideal S512x512 .f32) (r c : Fin 512) :
    k0_pay22 (F := Ideal) S k0_pay19 k0_pay20 k0_pay21 0#32 (ix2 r c) = if c.val / 64 ≤ r.val / 64 then S (ix2 r c) else ⊥ := by
  pointwise [k0_pay22, k0_pay19, k0_pay20, k0_pay21]
  show Scalar.select (IntOp.cmpi CmpIPredicate.sge (chunkWord (BitVec.ofNat 32 r.val)) (chunkWord (BitVec.ofNat 32 c.val))) _ _ = _
  rw [chunkWord_eq, chunkWord_eq]
  rw [show IntOp.cmpi CmpIPredicate.sge (BitVec.ofNat 32 (r.val / 64)) (BitVec.ofNat 32 (c.val / 64)) = if c.val / 64 ≤ r.val / 64 then 1#1 else 0#1
    from sge_eq ⟨r.val / 64, by omega⟩ ⟨c.val / 64, by omega⟩]
  split_ifs
  · rfl
  · rfl

/-- The scores of the last step, masked. -/
def scM (q k : Vec Ideal S1x512x256 .bf16) (r c : Fin 512) : EReal := if c.val / 64 ≤ r.val / 64 then sc q k r c else ⊥

/-- The scores of the last step before the mask. -/
theorem pay18_apply (q k : Vec Ideal S1x512x256 .bf16) (r c : Fin 512) : k0_pay18 (F := Ideal) q k (ix2 r c) = sc q k r c := by
  pointwise [k0_pay18, k0_pay2]
  rfl

/-- The scores of the last step. -/
theorem last_apply (q k : Vec Ideal S1x512x256 .bf16) (r c : Fin 512) :
    k0_pay22 (F := Ideal) (k0_pay18 q k) k0_pay19 k0_pay20 k0_pay21 0#32 (ix2 r c) = scM q k r c := by
  rw [pay22_apply, pay18_apply, scM]

/-- The last maximum. -/
theorem pay23_apply (M : FVec Ideal S512x1 .f32) (S : FVec Ideal S512x512 .f32) (a : IVec S512x512 32) (b : IVec S512x512 1) (e : IVec S512x512 32) (z : BitVec 32) (r : Fin 512) :
    k0_pay23 (F := Ideal) M S a b e z (ix2 r 0) = max (M (ix2 r 0)) (Finset.univ.sup fun c => k0_pay22 (F := Ideal) S a b e z (ix2 r c)) := by
  pointwise [k0_pay23]
  rw [ofBits_ninf]
  simp only [fold_max_bot]

/-- The last factor. -/
theorem pay24_apply (M : FVec Ideal S512x1 .f32) (S : FVec Ideal S512x512 .f32) (a : IVec S512x512 32) (b : IVec S512x512 1) (e : IVec S512x512 32) (z : BitVec 32) (r : Fin 512) :
    k0_pay24 (F := Ideal) M S a b e z (ix2 r 0) = Ideal.exp (M (ix2 r 0) - k0_pay23 (F := Ideal) M S a b e z (ix2 r 0)) := by
  pointwise [k0_pay24]

/-- The last exponentials. -/
theorem pay25_apply (M : FVec Ideal S512x1 .f32) (S : FVec Ideal S512x512 .f32) (a : IVec S512x512 32) (b : IVec S512x512 1) (e : IVec S512x512 32) (z : BitVec 32) (r c : Fin 512) :
    k0_pay25 (F := Ideal) M S a b e z (ix2 r c) = Ideal.exp (k0_pay22 (F := Ideal) S a b e z (ix2 r c) - k0_pay23 (F := Ideal) M S a b e z (ix2 r 0)) := by
  pointwise [k0_pay25]

/-- The last sum. -/
theorem pay26_apply (M L : FVec Ideal S512x1 .f32) (S : FVec Ideal S512x512 .f32) (a : IVec S512x512 32) (b : IVec S512x512 1) (e : IVec S512x512 32) (z : BitVec 32) (r : Fin 512) :
    k0_pay26 (F := Ideal) M L S a b e z (ix2 r 0) = k0_pay24 (F := Ideal) M S a b e z (ix2 r 0) * L (ix2 r 0) + ∑ c, k0_pay25 (F := Ideal) M S a b e z (ix2 r c) := by
  pointwise [k0_pay26]

/-- The last weighted sum before its block is added. -/
theorem pay27_apply (M : FVec Ideal S512x1 .f32) (A : FVec Ideal S512x128 .f32) (S : FVec Ideal S512x512 .f32) (a : IVec S512x512 32) (b : IVec S512x512 1) (e : IVec S512x512 32) (z : BitVec 32)
    (r : Fin 512) (d : Fin 128) :
    k0_pay27 (F := Ideal) M A S a b e z (ix2 r d) = k0_pay24 (F := Ideal) M S a b e z (ix2 r 0) * A (ix2 r d) := by
  pointwise [k0_pay27]

/-- The last exponentials, in the narrow format. -/
theorem pay28_apply (M : FVec Ideal S512x1 .f32) (S : FVec Ideal S512x512 .f32) (a : IVec S512x512 32) (b : IVec S512x512 1) (e : IVec S512x512 32) (z : BitVec 32) (r c : Fin 512) :
    k0_pay28 (F := Ideal) M S a b e z (ix2 r c) = k0_pay25 (F := Ideal) M S a b e z (ix2 r c) := by
  pointwise [k0_pay28]

/-- What the body stores. -/
theorem pay1_apply (L : FVec Ideal S512x1 .f32) (A : FVec Ideal S512x128 .f32) (p : FVec Ideal S512x512 .bf16) (v : Vec Ideal S1x512x128 .bf16) (r : Fin 512) (d : Fin 128) :
    k0_pay1 (F := Ideal) L A p v (ix3 0 r d) = Ideal.div (A (ix2 r d) + ∑ c, p (ix2 r c) * v (ix3 0 c d)) (L (ix2 r 0)) := by
  pointwise [k0_pay1]

/-- The loop over whole blocks makes as many trips as there are blocks before the query's. -/
theorem trips1 (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by
    decide +kernel
  exact h (i 2)

/-- The loop's remainder makes none. -/
theorem trips2 (i : grid0.Coords) : (k0_t2_loop i).trips = 0 := by
  have h : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide +kernel
  exact h (i 2)

/-- Where trip `k` starts among the keys. -/
theorem off1 (i : grid0.Coords) (k : Fin (k0_t1_loop i).trips) : k0_off1 i k = ![0, 512 * k.val, 0] := by
  have h : ∀ n : Fin 8, (Scalar.indexCast (Scalar.muli (Scf.iv 0#32 1#32 n.val) 512#32)).toNat = 512 * n.val := by
    decide +kernel
  have hk : k.val < 8 := by have := k.isLt; have := trips1 i; have := (i 2).isLt; simp [grid0] at this; omega
  exact congrArg (fun x => ![0, x, 0]) (h ⟨k.val, hk⟩)

/-- And among the values. -/
theorem off2 (i : grid0.Coords) (k : Fin (k0_t1_loop i).trips) : k0_off2 i k = ![0, 512 * k.val, 0] := off1 i k

/-- Where the last step starts among the keys. -/
theorem off5 (i : grid0.Coords) : k0_off5 i = ![0, 512 * (i 2).val, 0] := by
  have h : ∀ n : Fin 8, (Scalar.indexCast (Scalar.muli (BitVec.ofNat 32 n.val) 512#32)).toNat = 512 * n.val := by
    decide +kernel
  exact congrArg (fun x => ![0, x, 0]) (h (i 2))

/-- And among the values. -/
theorem off6 (i : grid0.Coords) : k0_off6 i = ![0, 512 * (i 2).val, 0] := off5 i

/-- A block of 512 keys, by its offset. -/
theorem ld_key (x : Vec Ideal S1x4096x256 .bf16) (off : Fin 3 → ℕ) (inb) (n : Fin 8) (h : off = ![0, 512 * n.val, 0]) (c : Fin 512) (d : Fin 256) :
    View.ld x (Rect.unit (s := S1x4096x256) off S1x512x256.size inb) (ix3 0 c d) = x (ix3 0 (key n c) d) := by
  subst h
  pointwise
  rfl

/-- A block of 512 values, by its offset. -/
theorem ld_val (x : Vec Ideal S1x4096x128 .bf16) (off : Fin 3 → ℕ) (inb) (n : Fin 8) (h : off = ![0, 512 * n.val, 0]) (c : Fin 512) (d : Fin 128) :
    View.ld x (Rect.unit (s := S1x4096x128) off S1x512x128.size inb) (ix3 0 c d) = x (ix3 0 (key n c) d) := by
  subst h
  pointwise
  rfl

/-- The score of query row `r` of the block against key `j` of all. -/
def scAll (q : Vec Ideal S1x512x256 .bf16) (x1 : Vec Ideal S1x4096x256 .bf16) (r : Fin 512) (j : Fin 4096) : EReal :=
  ∑ d : Fin 256, q (ix3 0 r d) * x1 (ix3 0 j d)

/-- One trip's result, from the values carried into it. -/
theorem trip_eq (𝒱 : Variants) (c : Dev nD) (bd : Option 𝒱.V) (i : grid0.Coords) (arg3 : Memref sig .tc .vmem S1x512x256 .bf16) (harg3 : arg3.IsWhole) (arg4 : Memref sig .tc .vmem S1x4096x256 .bf16) (harg4 : arg4.IsWhole) (arg5 : Memref sig .tc .vmem S1x4096x128 .bf16) (harg5 : arg5.IsWhole)
    (arg6 : Memref sig .tc .vmem S1x512x128 .bf16) (harg6 : arg6.IsWhole) (q : Vec Ideal S1x512x256 .bf16) (x1 : Vec Ideal S1x4096x256 .bf16) (x2 : Vec Ideal S1x4096x128 .bf16)
    (k : Fin (k0_t1_loop i).trips) (acc : FVec Ideal S512x1 .f32 × FVec Ideal S512x1 .f32 × FVec Ideal S512x128 .f32) :
    tripR_k0_t1 𝒱 c bd i arg3 harg3 arg4 harg4 arg5 harg5 arg6 harg6 q (harg4.unread x1) (harg5.unread x2) k acc =
      (k0_pay7 q acc.1 (View.ld x1 (Rect.unit (s := S1x4096x256) (k0_off1 i k) S1x512x256.size (k0_off1_inb i k))),
       k0_pay10 q acc.1 acc.2.1 (View.ld x1 (Rect.unit (s := S1x4096x256) (k0_off1 i k) S1x512x256.size (k0_off1_inb i k))),
       k0_pay11 q acc.1 acc.2.2 (View.ld x1 (Rect.unit (s := S1x4096x256) (k0_off1 i k) S1x512x256.size (k0_off1_inb i k)))
        (View.ld x2 (Rect.unit (s := S1x4096x128) (k0_off2 i k) S1x512x128.size (k0_off2_inb i k)))) := by
  unfold tripR_k0_t1 trip_k0_t1
  dsimp only
  simp only [View.readAt_eq_ld, harg4.read_unread, harg5.read_unread]

/-- The scores of a trip's block are those of its keys. -/
theorem sc_key (q : Vec Ideal S1x512x256 .bf16) (x1 : Vec Ideal S1x4096x256 .bf16) (off : Fin 3 → ℕ) (inb) (n : Fin 8) (h : off = ![0, 512 * n.val, 0]) (r c : Fin 512) :
    sc q (View.ld x1 (Rect.unit (s := S1x4096x256) off S1x512x256.size inb)) r c = scAll q x1 r (key n c) := by
  rw [sc, scAll]
  exact Finset.sum_congr rfl fun d _ => by rw [ld_key x1 off inb n h]

/-- After `n` trips the carried values are the maximum, the sum and the weighted sum over the first `n` blocks of keys. -/
theorem carry (𝒱 : Variants) (c : Dev nD) (bd : Option 𝒱.V) (i : grid0.Coords) (arg3 : Memref sig .tc .vmem S1x512x256 .bf16) (harg3 : arg3.IsWhole) (arg4 : Memref sig .tc .vmem S1x4096x256 .bf16) (harg4 : arg4.IsWhole) (arg5 : Memref sig .tc .vmem S1x4096x128 .bf16) (harg5 : arg5.IsWhole)
    (arg6 : Memref sig .tc .vmem S1x512x128 .bf16) (harg6 : arg6.IsWhole) (q : Vec Ideal S1x512x256 .bf16) (x1 : Vec Ideal S1x4096x256 .bf16) (x2 : Vec Ideal S1x4096x128 .bf16)
    (hs : ∀ r j, scAll q x1 r j ≠ ⊤) (n : ℕ) (hn : n ≤ (k0_t1_loop i).trips) (r : Fin 512) :
    (st_k0_t1 𝒱 c bd i arg3 harg3 arg4 harg4 arg5 harg5 arg6 harg6 q (harg4.unread x1) (harg5.unread x2) (k0_pay3, k0_pay4, k0_pay5) n).1 (ix2 r 0)
        = (keys n).sup (scAll q x1 r)
    ∧ (st_k0_t1 𝒱 c bd i arg3 harg3 arg4 harg4 arg5 harg5 arg6 harg6 q (harg4.unread x1) (harg5.unread x2) (k0_pay3, k0_pay4, k0_pay5) n).2.1 (ix2 r 0)
        = ∑ j ∈ keys n, Ideal.exp (scAll q x1 r j - (keys n).sup (scAll q x1 r))
    ∧ ∀ d, (st_k0_t1 𝒱 c bd i arg3 harg3 arg4 harg4 arg5 harg5 arg6 harg6 q (harg4.unread x1) (harg5.unread x2) (k0_pay3, k0_pay4, k0_pay5) n).2.2 (ix2 r d)
        = ∑ j ∈ keys n, Ideal.exp (scAll q x1 r j - (keys n).sup (scAll q x1 r)) * x2 (ix3 0 j d) := by
  induction n with
  | zero =>
    rw [st_k0_t1_zero, keys_zero]
    exact ⟨pay3_apply r, pay4_apply r, fun d => pay5_apply r d⟩
  | succ n ih =>
    obtain ⟨e1, e2, e3⟩ := ih (by omega)
    have h8 : n < 8 := by have := trips1 i; have := (i 2).isLt; simp [grid0] at this; omega
    have hb := fun c => sc_key q x1 (k0_off1 i ⟨n, hn⟩) (k0_off1_inb i ⟨n, hn⟩) ⟨n, h8⟩ (off1 i ⟨n, hn⟩) r c
    have hv := fun c d => ld_val x2 (k0_off2 i ⟨n, hn⟩) (k0_off2_inb i ⟨n, hn⟩) ⟨n, h8⟩ (off2 i ⟨n, hn⟩) c d
    have hM := sup_step (scAll q x1 r) ⟨n, h8⟩
    rw [st_k0_t1_succ 𝒱 c bd i arg3 harg3 arg4 harg4 arg5 harg5 arg6 harg6 q _ _ _ ⟨n, hn⟩, trip_eq]
    have hP : ∀ M : FVec Ideal S512x1 .f32, M (ix2 r 0) = (keys n).sup (scAll q x1 r) →
        k0_pay7 (F := Ideal) q M (View.ld x1 (Rect.unit (s := S1x4096x256) (k0_off1 i ⟨n, hn⟩) S1x512x256.size (k0_off1_inb i ⟨n, hn⟩))) (ix2 r 0)
          = (keys (n + 1)).sup (scAll q x1 r) := fun M h => by
      rw [pay7_apply, h, ← hM]
      exact congrArg (max _) (Finset.sup_congr rfl fun c _ => hb c)
    dsimp only
    refine ⟨hP _ e1, ?_, fun d => ?_⟩
    · rw [pay10_apply, hP _ e1, e1, e2]
      simp only [hb]
      exact sum_step_one (scAll q x1 r) (hs r) ⟨n, h8⟩
    · rw [pay11_apply, hP _ e1, e1, e3]
      simp only [hb, hv]
      exact sum_step (scAll q x1 r) (fun j => x2 (ix3 0 j d)) (hs r) ⟨n, h8⟩

/-- The softmax of the scores `s` against the values `v`, the division last. -/
def att (s v : Fin 4096 → EReal) : EReal :=
  Ideal.div (∑ j, Ideal.exp (s j - Finset.univ.sup s) * v j) (∑ j, Ideal.exp (s j - Finset.univ.sup s))

/-- The scores of query `R` of the sequence: those of keys in later chunks of 64 are `⊥`. -/
def masked (R : ℕ) (s : Fin 4096 → EReal) (j : Fin 4096) : EReal := if j.val / 64 ≤ R / 64 then s j else ⊥

/-- A masked score is no greater than `⊤` when the score is not. -/
theorem masked_ne_top (R : ℕ) (s : Fin 4096 → EReal) (hs : ∀ j, s j ≠ ⊤) (j : Fin 4096) : masked R s j ≠ ⊤ := by
  unfold masked
  split_ifs
  · exact hs j
  · exact bot_ne_top

/-- The keys of the blocks before the query's own are all unmasked. -/
theorem masked_before (n : Fin 8) (r : Fin 512) (s : Fin 4096 → EReal) (j : Fin 4096) (hj : j ∈ keys n.val) : s j = masked (512 * n.val + r.val) s j := by
  simp only [keys, Finset.mem_filter, Finset.mem_univ, true_and] at hj
  rw [masked, if_pos (by omega)]

/-- The keys of the blocks after the query's own are all masked. -/
theorem masked_after (n : Fin 8) (r : Fin 512) (s : Fin 4096 → EReal) (j : Fin 4096) (hj : j ∉ keys (n.val + 1)) : masked (512 * n.val + r.val) s j = ⊥ := by
  simp only [keys, Finset.mem_filter, Finset.mem_univ, true_and] at hj
  rw [masked, if_neg (by omega)]

/-- Within the query's own block the mask compares the places in the block. -/
theorem masked_key (n : Fin 8) (r c : Fin 512) (s : Fin 4096 → EReal) :
    masked (512 * n.val + r.val) s (key n c) = if c.val / 64 ≤ r.val / 64 then s (key n c) else ⊥ := by
  rw [masked, key_val]
  by_cases h : c.val / 64 ≤ r.val / 64
  · rw [if_pos h, if_pos (by omega)]
  · rw [if_neg h, if_neg (by omega)]

/-- The block stored, from values carried out of the loop that are those of the blocks before the query's. -/
theorem store_val (q : Vec Ideal S1x512x256 .bf16) (x1 : Vec Ideal S1x4096x256 .bf16) (x2 : Vec Ideal S1x4096x128 .bf16)
    (n : Fin 8) (off off' : Fin 3 → ℕ) (inb) (inb') (h : off = ![0, 512 * n.val, 0]) (h' : off' = ![0, 512 * n.val, 0])
    (hs : ∀ r j, scAll q x1 r j ≠ ⊤) (M L : FVec Ideal S512x1 .f32) (A : FVec Ideal S512x128 .f32) (r : Fin 512) (d : Fin 128)
    (eM : M (ix2 r 0) = (keys n.val).sup (scAll q x1 r))
    (eL : L (ix2 r 0) = ∑ j ∈ keys n.val, Ideal.exp (scAll q x1 r j - (keys n.val).sup (scAll q x1 r)))
    (eA : A (ix2 r d) = ∑ j ∈ keys n.val, Ideal.exp (scAll q x1 r j - (keys n.val).sup (scAll q x1 r)) * x2 (ix3 0 j d)) :
    k0_pay1 (F := Ideal)
      (k0_pay26 M L (k0_pay18 q (View.ld x1 (Rect.unit (s := S1x4096x256) off S1x512x256.size inb))) k0_pay19 k0_pay20 k0_pay21 0#32)
      (k0_pay27 M A (k0_pay18 q (View.ld x1 (Rect.unit (s := S1x4096x256) off S1x512x256.size inb))) k0_pay19 k0_pay20 k0_pay21 0#32)
      (k0_pay28 M (k0_pay18 q (View.ld x1 (Rect.unit (s := S1x4096x256) off S1x512x256.size inb))) k0_pay19 k0_pay20 k0_pay21 0#32)
      (View.ld x2 (Rect.unit (s := S1x4096x128) off' S1x512x128.size inb')) (ix3 0 r d)
    = att (masked (512 * n.val + r.val) (scAll q x1 r)) (fun j => x2 (ix3 0 j d)) := by
  have hb : ∀ c, scM q (View.ld x1 (Rect.unit (s := S1x4096x256) off S1x512x256.size inb)) r c = masked (512 * n.val + r.val) (scAll q x1 r) (key n c) := fun c => by
    rw [scM, masked_key, sc_key q x1 off inb n h]
  have hv := fun c => ld_val x2 off' inb' n h' c d
  have ht := masked_ne_top (512 * n.val + r.val) (scAll q x1 r) (hs r)
  have hbef := masked_before n r (scAll q x1 r)
  have haft := masked_after n r (scAll q x1 r)
  have e0 : (keys n.val).sup (scAll q x1 r) = (keys n.val).sup (masked (512 * n.val + r.val) (scAll q x1 r)) := Finset.sup_congr rfl hbef
  rw [e0] at eM eL eA
  have eL' : L (ix2 r 0) = ∑ j ∈ keys n.val, Ideal.exp (masked (512 * n.val + r.val) (scAll q x1 r) j - (keys n.val).sup (masked (512 * n.val + r.val) (scAll q x1 r))) :=
    eL.trans (Finset.sum_congr rfl fun j hj => by rw [hbef j hj])
  have eA' : A (ix2 r d) = ∑ j ∈ keys n.val, Ideal.exp (masked (512 * n.val + r.val) (scAll q x1 r) j - (keys n.val).sup (masked (512 * n.val + r.val) (scAll q x1 r))) * x2 (ix3 0 j d) :=
    eA.trans (Finset.sum_congr rfl fun j hj => by rw [hbef j hj])
  rw [pay1_apply, pay26_apply, pay27_apply]
  simp only [pay28_apply, pay25_apply, pay24_apply, pay23_apply, last_apply, hb, hv, eM]
  rw [sup_step, eL', eA', sum_step _ _ ht n, sum_step_one _ ht n, sup_all _ _ haft, sum_all _ _ _ _ haft, sum_all_one _ _ _ haft, att]

variable (m : (ℓ : Loc nD τ sig) → Buf (Elt Ideal) ℓ)

/-- What the body leaves in the output block at grid point `t`. -/
theorem outs_val (c : Dev nD) (t : Fin cfg0.N) (hs : ∀ r j, scAll (iblk m c 0 t) (iblk m c 1 t) r j ≠ ⊤) (r : Fin 512) (d : Fin 128) :
    outsAt0 m c t (ix3 0 r d) = att (masked (512 * (grid0.coords t 2).val + r.val) (scAll (iblk m c 0 t) (iblk m c 1 t) r)) (fun j => iblk m c 2 t (ix3 0 j d)) := by
  have h1 := trips1 (grid0.coords t)
  have h2 := trips2 (grid0.coords t)
  dsimp only [k0_t1_loop, k0_t2_loop, Scf.Loop.trips] at h1 h2
  unfold outsAt0
  frame_out
  simp only [h1, h2, st_k0_t2_zero]
  obtain ⟨e1, e2, e3⟩ := carry Variants.none c none (grid0.coords t) (ms0_0 t) (hs0_0 t) (ms0_1 t) (hs0_1 t) (ms0_2 t) (hs0_2 t) (ms0_3 t) (hs0_3 t)
    (iblk m c 0 t) (iblk m c 1 t) (iblk m c 2 t) hs (grid0.coords t 2).val (trips1 (grid0.coords t)).ge r
  exact store_val (iblk m c 0 t) (iblk m c 1 t) (iblk m c 2 t) (grid0.coords t 2) _ _ _ _ (off5 _) (off6 _) hs _ _ _ r d e1 e2 (e3 d)

/-- The score of query `R` against key `j` in batch `n` and head `h`. -/
def scG (q k : Vec Ideal S8x4096x1536 .bf16) (n : Fin 8) (h : Fin 6) (R j : Fin 4096) : EReal :=
  ∑ d : Fin 256, q (ix3 n R ⟨h.val * 256 + d.val, by omega⟩) * k (ix3 n j ⟨h.val * 256 + d.val, by omega⟩)

/-- The result, as a function of the arguments. -/
def G (q k : Vec Ideal S8x4096x1536 .bf16) (v : Vec Ideal S8x4096x768 .bf16) : Vec Ideal S8x4096x768 .bf16 := fun i =>
  att (masked (i 1).val (scG q k (i 0) ⟨(i 2).val / 128, by have : (i 2).val < 768 := (i 2).isLt; omega⟩ (i 1))) (fun j => v (ix3 (i 0) j (i 2)))

/-- Which block each window shows at each grid point, and the block of queries. -/
theorem idx : ∀ t : Fin cfg0.N, win0_0.index t = ![t.val / 48, t.val % 8, t.val / 8 % 6] ∧ win0_1.index t = ![t.val / 48, 0, t.val / 8 % 6]
    ∧ win0_2.index t = ![t.val / 48, 0, t.val / 8 % 6] ∧ win0_3.index t = ![t.val / 48, t.val % 8, t.val / 8 % 6] ∧ (grid0.coords t 2).val = t.val % 8 :=
  (by decide +kernel : ∀ t : Fin grid0.N, _)

/-- The queries that grid point `t` reads. -/
theorem iblk0 (c : Dev nD) (t : Fin cfg0.N) (r : Fin 512) (k : Fin 256) : iblk m c 0 t (ix3 0 r k)
    = m ((c : Thread nD τ).loc main_arg0) (ix3 ⟨t.val / 48, by idx_bounds; omega⟩ ⟨t.val % 8 * 512 + r.val, by omega⟩ ⟨t.val / 8 % 6 * 256 + k.val, by omega⟩) := by
  blk_simp [iblk]
  entry_read
  pointwise
  blk_ext [idx t]

/-- The keys that grid point `t` reads. -/
theorem iblk1 (c : Dev nD) (t : Fin cfg0.N) (j : Fin 4096) (k : Fin 256) : iblk m c 1 t (ix3 0 j k)
    = m ((c : Thread nD τ).loc main_arg1) (ix3 ⟨t.val / 48, by idx_bounds; omega⟩ j ⟨t.val / 8 % 6 * 256 + k.val, by omega⟩) := by
  blk_simp [iblk]
  entry_read
  pointwise
  blk_ext [idx t]

/-- The values that grid point `t` reads. -/
theorem iblk2 (c : Dev nD) (t : Fin cfg0.N) (j : Fin 4096) (k : Fin 128) : iblk m c 2 t (ix3 0 j k)
    = m ((c : Thread nD τ).loc main_arg2) (ix3 ⟨t.val / 48, by idx_bounds; omega⟩ j ⟨t.val / 8 % 6 * 128 + k.val, by omega⟩) := by
  blk_simp [iblk]
  entry_read
  pointwise
  blk_ext [idx t]

/-- Where the output block of grid point `t` lies in the result. -/
theorem emb3 (t : Fin cfg0.N) (r : Fin 512) (k : Fin 128) :
    ((cfg0.win 3).blk t).view.emb (ix3 0 r k) = ix3 ⟨t.val / 48, by idx_bounds; omega⟩ ⟨t.val % 8 * 512 + r.val, by omega⟩ ⟨t.val / 8 % 6 * 128 + k.val, by omega⟩ := by
  blk_ext [idx t]

/-- The scores of a grid point are those of its batch, its head and its queries. -/
theorem scAll_blk (c : Dev nD) (t : Fin cfg0.N) (r : Fin 512) : scAll (iblk m c 0 t) (iblk m c 1 t) r
    = scG (m ((c : Thread nD τ).loc main_arg0)) (m ((c : Thread nD τ).loc main_arg1)) ⟨t.val / 48, by idx_bounds; omega⟩ ⟨t.val / 8 % 6, by omega⟩ ⟨t.val % 8 * 512 + r.val, by omega⟩ := by
  funext j
  rw [scAll, scG]
  exact Finset.sum_congr rfl fun d _ => by rw [iblk0, iblk1]

/-- Scores of real queries and keys are real. -/
theorem scG_real (q k : Vec Ideal S8x4096x1536 .bf16) (hq : ∀ i, IsReal (q i)) (hk : ∀ i, IsReal (k i)) (n : Fin 8) (h : Fin 6) (R j : Fin 4096) :
    IsReal (scG q k n h R j) :=
  IsReal.sum _ _ fun d _ => (hq _).mul (hk _)

/-- One entry of `G`, its column written by head and place. -/
theorem G_apply (q k : Vec Ideal S8x4096x1536 .bf16) (v : Vec Ideal S8x4096x768 .bf16) (n : Fin 8) (h : Fin 6) (R : Fin 4096) (d : Fin 128) (x : Fin 768) (hx : x.val = h.val * 128 + d.val) :
    G q k v (ix3 n R x) = att (masked R.val (scG q k n h R)) (fun j => v (ix3 n j x)) := by
  show att (masked R.val (scG q k n ⟨x.val / 128, _⟩ R)) _ = _
  have e : (⟨x.val / 128, by omega⟩ : Fin 6) = h := Fin.ext (by simp only; omega)
  rw [e]
  rfl

/-- The kernel's result array after the run is the function `G` of the arguments, when queries and keys are real. -/
theorem final (c : Dev nD) (hq : ∀ i, IsReal (m ((c : Thread nD τ).loc main_arg0) i)) (hk : ∀ i, IsReal (m ((c : Thread nD τ).loc main_arg1) i)) :
    (dats m 0 c).arrAt 3 (cfgs 0).N
      = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  obtain rfl : y0 = 0 := Subsingleton.elim _ _
  refine (outs_val m c t (fun r j => ?_) y1 y2).trans ?_
  · rw [scAll_blk]
    exact (scG_real _ _ hq hk _ _ _ _).ne_top
  · rw [scAll_blk, (idx t).2.2.2.2]
    simp only [iblk2 m c t]
    refine Eq.trans ?_ (congrArg (G _ _ _) (emb3 t y1 y2)).symm
    rw [G_apply _ _ _ _ ⟨t.val / 8 % 6, by omega⟩ _ y2 _ rfl]
    rw [show 512 * (t.val % 8) + y1.val = t.val % 8 * 512 + y1.val by omega]

end Kernel

end Cert.Proof.Attn
-- ==== Proof.Attn.lean ====
module

public import proofs.«01_k».proof.Proof.AttnKernel
public import proofs.«01_k».proof.Proof.Gen.ReferenceIdeal.Run
public import Idealize.ShloMosaic.Lib.Pipeline.ValueKit
public import Idealize.ShloMosaic.Lib.Tactic.CleanTypes
public import proofs.«01_k».proof.Proof.Online
public import proofs.«01_k».proof.Proof.Finite
public import proofs.«01_k».proof.Defs

@[expose] public section

/-!
The attention with its block-causal mask: the kernel's online softmax over the blocks of keys up to the query's own is
the reference's softmax over all keys, when the queries and the keys are real.
-/

set_option maxRecDepth 16384

noncomputable section

namespace Cert.Proof.Attn

open Idealize.ShloMosaic Idealize.ShloMosaic.TcCoe Idealize.SL.Sem
open Idealize.ShloMosaic.Pipeline (Dat)
open Cert.Proof.Online

section Reference
open Cert.ReferenceIdeal Cert.ReferenceIdeal.Gen

/-- The reference's scores, before the mask. -/
def refS (q k : FVec Ideal S8x4096x1536 .bf16) : FVec Ideal S8x6x4096x4096 .f32 :=
  let D : FVec Ideal S8x4096x1536 .f32 := extf .f32 q bitsLt_bf16_f32
  let Q : FVec Ideal S8x4096x6x256 .f32 := shapeCast _ D shapeCasts_S8x4096x1536_S8x4096x6x256
  let E : FVec Ideal S8x4096x1536 .f32 := extf .f32 k bitsLt_bf16_f32
  let K : FVec Ideal S8x4096x6x256 .f32 := shapeCast _ E shapeCasts_S8x4096x1536_S8x4096x6x256
  Host.dotGeneral dot_S8x4096x6x256_S8x4096x6x256_S8x6x4096x4096_3_3_1_1_02_02 none Q K

/-- The reference's chunk of 64 of each position. -/
def refChunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- The reference's mask: the chunk of the query against the chunk of the key. -/
def refMask (C : IVec S4096 32) : IVec S4096x4096 1 :=
  cmpi .sge (broadcastInDim S4096x4096 ![0, 1] bcast_S4096x1_S4096x4096_0_1 (broadcastInDim S4096x1 ![0] bcast_S4096_S4096x1_0 C))
    (broadcastInDim S4096x4096 ![0, 1] bcast_S1x4096_S4096x4096_0_1 (broadcastInDim S1x4096 ![1] bcast_S4096_S1x4096_1 C))

/-- The reference's scores, masked. -/
def refM (B : IVec S4096x4096 1) (S : FVec Ideal S8x6x4096x4096 .f32) : FVec Ideal S8x6x4096x4096 .f32 :=
  select (broadcastInDim S8x6x4096x4096 ![0, 1, 2, 3] bcast_S1x1x4096x4096_S8x6x4096x4096_0_1_2_3 (broadcastInDim S1x1x4096x4096 ![2, 3] bcast_S4096x4096_S1x1x4096x4096_2_3 B))
    S (broadcastInDim S8x6x4096x4096 ![] bcast_S_S8x6x4096x4096 (id (constant S_ .f32 0xFF800000#32)))

/-- An array of one number per row of scores, repeated along the row. -/
def refWide (M : FVec Ideal S8x6x4096 .f32) : FVec Ideal S8x6x4096x4096 .f32 :=
  broadcastInDim S8x6x4096x4096 ![0, 1, 2, 3] bcast_S8x6x4096x1_S8x6x4096x4096_0_1_2_3 (broadcastInDim S8x6x4096x1 ![0, 1, 2] bcast_S8x6x4096_S8x6x4096x1_0_1_2 M)

/-- The greatest score of each row, folded from minus infinity. -/
def refTop (S : FVec Ideal S8x6x4096x4096 .f32) : FVec Ideal S8x6x4096 .f32 :=
  Host.reduce FloatOps.maximumf S (constant S_ .f32 0xFF800000#32) reducesTo_S8x6x4096x4096_S8x6x4096_d3 h_S_

/-- The reference's maximum of each row of scores: minus infinity against the greatest score. -/
def refMax (S : FVec Ideal S8x6x4096x4096 .f32) : FVec Ideal S8x6x4096 .f32 :=
  maximumf (broadcastInDim S8x6x4096 ![] bcast_S_S8x6x4096 (constant S_ .f32 0xFF800000#32)) (refTop S)

/-- The reference's exponentials of the scores over their row's maximum. -/
def refExp (S : FVec Ideal S8x6x4096x4096 .f32) : FVec Ideal S8x6x4096x4096 .f32 := Host.exp (subf S (refWide (refMax S)))

/-- The reference's sum of each row. -/
def refSum (P : FVec Ideal S8x6x4096x4096 .f32) : FVec Ideal S8x6x4096 .f32 :=
  Host.reduceAdd P (constant S_ .f32 0x00000000#32) reducesTo_S8x6x4096x4096_S8x6x4096_d3 h_S_

/-- The reference's softmax of an array of scores. -/
def refP (S : FVec Ideal S8x6x4096x4096 .f32) : FVec Ideal S8x6x4096x4096 .f32 := Host.divf (refExp S) (refWide (refSum (refExp S)))

/-- The reference's weighted values, head by head, from the softmax `P`. -/
def refO (P : FVec Ideal S8x6x4096x4096 .f32) (v : FVec Ideal S8x4096x768 .bf16) : FVec Ideal S8x6x128x4096 .f32 :=
  let E : FVec Ideal S8x4096x768 .f32 := extf .f32 v bitsLt_bf16_f32
  let V : FVec Ideal S8x4096x6x128 .f32 := shapeCast _ E shapeCasts_S8x4096x768_S8x4096x6x128
  Host.dotGeneral dot_S8x4096x6x128_S8x6x4096x4096_S8x6x128x4096_1_3_3_2_02_01 none V P

/-- The heads side by side, in the narrow format. -/
def refR (O : FVec Ideal S8x6x128x4096 .f32) : FVec Ideal S8x4096x768 .bf16 :=
  let T : FVec Ideal S8x4096x6x128 .f32 := transpose S8x4096x6x128 [0, 3, 1, 2] O transposes_S8x6x128x4096_S8x4096x6x128_0_3_1_2
  let R : FVec Ideal S8x4096x768 .f32 := shapeCast _ T shapeCasts_S8x4096x6x128_S8x4096x768
  truncf .bf16 R bitsLt_bf16_f32

/-- The reference's result, in stages. -/
theorem res_eq (m : (ℓ : Loc nD τ sig) → Buf (Elt Ideal) ℓ) (d : Dev nD) :
    Cert.ReferenceIdeal.Value.res_main_v30 (F := Ideal) m d
      = refR (refO (refP (refM (refMask refChunk) (refS (m ((d.tc : Thread nD τ).loc main_arg0)) (m ((d.tc : Thread nD τ).loc main_arg1)))))
          (m ((d.tc : Thread nD τ).loc main_arg2))) := by
  unfold Cert.ReferenceIdeal.Value.res_main_v30 refR refO refP refSum refExp refMax refTop refWide refM refMask refChunk refS
  rfl

/-- One entry of the reference's scores. -/
theorem refS_apply (q k : FVec Ideal S8x4096x1536 .bf16) (n : Fin 8) (h : Fin 6) (r j : Fin 4096) :
    refS q k (ix4 n h r j) = scG q k n h r j := by
  pointwise [refS]
  rfl

/-- The host's floor division of a position by 64, on words. -/
def hostChunk (w : BitVec 32) : BitVec 32 :=
  Scalar.select
    (IntOp.andi
      (IntOp.cmpi CmpIPredicate.ne ((if w = 0 then 0 else if w.msb = true then -1 else 1 : BitVec 32)) (if (64#32) = 0 then 0 else if (64#32).msb = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

/-- It is the quotient. -/
theorem hostChunk_eq : ∀ r : Fin 4096, hostChunk (BitVec.ofNat 32 r.val) = BitVec.ofNat 32 (r.val / 64) := by
  decide +kernel

/-- One position's chunk. -/
theorem refChunk_apply (r : Fin 4096) : refChunk (ix1 r) = BitVec.ofNat 32 (r.val / 64) := by
  rw [← hostChunk_eq]
  pointwise [refChunk]
  rfl

/-- One entry of the mask. -/
theorem refMask_apply (C : IVec S4096 32) (r j : Fin 4096) : refMask C (ix2 r j) = IntOp.cmpi CmpIPredicate.sge (C (ix1 r)) (C (ix1 j)) := by
  pointwise [refMask]

/-- One entry of the masked scores. -/
theorem refM_apply (B : IVec S4096x4096 1) (S : FVec Ideal S8x6x4096x4096 .f32) (n : Fin 8) (h : Fin 6) (r j : Fin 4096) :
    refM B S (ix4 n h r j) = Scalar.select (B (ix2 r j)) (S (ix4 n h r j)) ⊥ := by
  pointwise [refM]
  exact congrArg (Scalar.select _ _) ofBits_ninf

/-- Every entry of the row is the row's number. -/
theorem refWide_apply (M : FVec Ideal S8x6x4096 .f32) (n : Fin 8) (h : Fin 6) (r j : Fin 4096) :
    refWide M (ix4 n h r j) = M (ix3 n h r) := by
  pointwise [refWide]

/-- The maximum of two arrays, one entry. -/
theorem maximumf_apply (A B : FVec Ideal S8x6x4096 .f32) (n : Fin 8) (h : Fin 6) (r : Fin 4096) :
    maximumf A B (ix3 n h r) = max (A (ix3 n h r)) (B (ix3 n h r)) := by
  pointwise

/-- The row's maximum, against minus infinity. -/
theorem refMax_max (S : FVec Ideal S8x6x4096x4096 .f32) (n : Fin 8) (h : Fin 6) (r : Fin 4096) :
    refMax S (ix3 n h r) = max (Ideal.ofBits .f32 0xFF800000#32) (refTop S (ix3 n h r)) :=
  maximumf_apply (broadcastInDim S8x6x4096 ![] bcast_S_S8x6x4096 (constant S_ .f32 0xFF800000#32)) _ n h r

/-- The greatest score of a row as a fold. -/
theorem refTop_fold (S : FVec Ideal S8x6x4096x4096 .f32) (n : Fin 8) (h : Fin 6) (r : Fin 4096) :
    refTop S (ix3 n h r) = Finset.univ.fold max (Ideal.ofBits .f32 0xFF800000#32) (fun x => S (ix4 n h r x)) := by
  pointwise [refTop]

/-- The greatest score of a row is the supremum. -/
theorem refTop_apply (S : FVec Ideal S8x6x4096x4096 .f32) (n : Fin 8) (h : Fin 6) (r : Fin 4096) :
    refTop S (ix3 n h r) = Finset.univ.sup (fun x => S (ix4 n h r x)) := by
  rw [refTop_fold, ofBits_ninf, fold_max_bot]

/-- The reference's maximum of a row is the supremum of its scores. -/
theorem refMax_apply (S : FVec Ideal S8x6x4096x4096 .f32) (n : Fin 8) (h : Fin 6) (r : Fin 4096) :
    refMax S (ix3 n h r) = Finset.univ.sup fun x => S (ix4 n h r x) := by
  rw [refMax_max, refTop_apply, ofBits_ninf]
  exact max_eq_right bot_le

/-- The sum of a row. -/
theorem refSum_apply (P : FVec Ideal S8x6x4096x4096 .f32) (n : Fin 8) (h : Fin 6) (r : Fin 4096) :
    refSum P (ix3 n h r) = ∑ x, P (ix4 n h r x) := by
  pointwise [refSum]

/-- One exponential. -/
theorem refExp_apply (S : FVec Ideal S8x6x4096x4096 .f32) (n : Fin 8) (h : Fin 6) (r j : Fin 4096) :
    refExp S (ix4 n h r j) = Ideal.exp (S (ix4 n h r j) - Finset.univ.sup fun x => S (ix4 n h r x)) := by
  show Ideal.exp (S (ix4 n h r j) - refWide (refMax S) (ix4 n h r j)) = _
  rw [refWide_apply, refMax_apply]

/-- One entry of the softmax. -/
theorem refP_apply (S : FVec Ideal S8x6x4096x4096 .f32) (n : Fin 8) (h : Fin 6) (r j : Fin 4096) :
    refP S (ix4 n h r j) = Ideal.div (Ideal.exp (S (ix4 n h r j) - Finset.univ.sup fun x => S (ix4 n h r x)))
      (∑ i, Ideal.exp (S (ix4 n h r i) - Finset.univ.sup fun x => S (ix4 n h r x))) := by
  show Ideal.div (refExp S (ix4 n h r j)) (refWide (refSum (refExp S)) (ix4 n h r j)) = _
  rw [refWide_apply, refSum_apply]
  simp only [refExp_apply]

/-- Column `c` belongs to head `c / 128`. -/
theorem refR_apply (O : FVec Ideal S8x6x128x4096 .f32) (n : Fin 8) (r : Fin 4096) (c : Fin 768) :
    refR O (ix3 n r c) = O (ix4 n ⟨c.val / 128, by omega⟩ ⟨c.val % 128, by omega⟩ r) := by
  pointwise [refR]

/-- One entry of the reference's weighted values. -/
theorem refO_apply (P : FVec Ideal S8x6x4096x4096 .f32) (v : FVec Ideal S8x4096x768 .bf16) (n : Fin 8) (h : Fin 6) (d : Fin 128) (r : Fin 4096) :
    refO P v (ix4 n h d r) = ∑ j : Fin 4096, v (ix3 n j ⟨h.val * 128 + d.val, by omega⟩) * P (ix4 n h r j) := by
  pointwise [refO]

/-- The reference's masked scores. -/
theorem scores_apply (q k : FVec Ideal S8x4096x1536 .bf16) (n : Fin 8) (h : Fin 6) (r j : Fin 4096) :
    refM (refMask refChunk) (refS q k) (ix4 n h r j) = masked r.val (scG q k n h r) j := by
  rw [refM_apply, refMask_apply, refChunk_apply, refChunk_apply, refS_apply, masked]
  rw [show IntOp.cmpi CmpIPredicate.sge (BitVec.ofNat 32 (r.val / 64)) (BitVec.ofNat 32 (j.val / 64)) = if j.val / 64 ≤ r.val / 64 then 1#1 else 0#1
    from sge_eq ⟨r.val / 64, by omega⟩ ⟨j.val / 64, by omega⟩]
  split_ifs
  · rfl
  · rfl

/-- The softmax of a masked row of real scores may be divided before or after the values are weighed. -/
theorem att_eq (R : Fin 4096) (s v : Fin 4096 → EReal) (hs : ∀ j, IsReal (s j)) :
    ∑ j, v j * Ideal.div (Ideal.exp (masked R.val s j - Finset.univ.sup (masked R.val s))) (∑ i, Ideal.exp (masked R.val s i - Finset.univ.sup (masked R.val s)))
      = att (masked R.val s) v := by
  refine (softmax_mul Finset.univ (masked R.val s) v (fun j _ => masked_ne_top _ _ (fun j => (hs j).ne_top) j) R (Finset.mem_univ _) ?_).symm
  rw [masked, if_pos le_rfl]
  exact (hs R).ne_bot

/-- The reference's result is the function `G` of the arguments, when queries and keys are real. -/
theorem res_G (m : (ℓ : Loc nD τ sig) → Buf (Elt Ideal) ℓ) (d : Dev nD)
    (hq : ∀ i, IsReal (m ((d.tc : Thread nD τ).loc main_arg0) i)) (hk : ∀ i, IsReal (m ((d.tc : Thread nD τ).loc main_arg1) i)) :
    Cert.ReferenceIdeal.Value.res_main_v30 (F := Ideal) m d
      = G (m ((d.tc : Thread nD τ).loc main_arg0)) (m ((d.tc : Thread nD τ).loc main_arg1)) (m ((d.tc : Thread nD τ).loc main_arg2)) := by
  rw [res_eq]
  funext i
  idx_vars i
  rw [refR_apply, refO_apply]
  simp only [refP_apply, scores_apply]
  refine (att_eq i1 _ _ fun j => scG_real _ _ hq hk _ _ _ _).trans ?_
  refine (G_apply _ _ _ _ ⟨i2.val / 128, by omega⟩ _ ⟨i2.val % 128, by omega⟩ _ ?_).symm.trans ?_
  · rfl
  · exact congrArg (fun x => G _ _ _ (ix3 i0 i1 x)) (Fin.ext (by simp only; omega))

end Reference

/-- Kernel and reference, run from the same arguments over the extended reals, leave the same result. -/
theorem algebraic : Cert.algebraic_KernelIdeal_ReferenceIdeal_pre_finite_scores (hPre_finite_scores := finite_scores_facts) := by
  have := finite_scores_facts
  pair_intro
  · run_from Cert.KernelIdeal.Gen.run_main m g
  · run_from Cert.ReferenceIdeal.Value.run m' g'
    obtain ⟨h0, h1, h2⟩ := hagree c
    obtain ⟨hq, hk⟩ := finite_scores_real _ _ _ (hpre c)
    rw [res_G m' c (by rw [h0]; exact hq) (by rw [h1]; exact hk), h0, h1, h2]
    exact (final m c hq hk).symm

end Cert.Proof.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Pre_finite_scores
public import proofs.«01_k».proof.Proof.Gen.Pre_finite_memory
public import proofs.«01_k».proof.Proof.Gen.KernelIdeal.Value
public import proofs.«01_k».proof.Proof.Gen.ReferenceIdeal.Run
public import proofs.«01_k».proof.Proof.Gen.FfnIdeal.Value
public import proofs.«01_k».proof.Proof.Gen.FfnRefIdeal.Run
public import proofs.«01_k».proof.Proof.Gen.MemAttnIdeal.Value
public import proofs.«01_k».proof.Proof.Gen.MemAttnRefIdeal.Run
public import proofs.«01_k».proof.Proof.Gen.OutIdeal.Value
public import proofs.«01_k».proof.Proof.Gen.OutRefIdeal.Run
public import proofs.«01_k».proof.Proof.Gen.MemKvIdeal.Value
public import proofs.«01_k».proof.Proof.Gen.MemKvRefIdeal.Run
public import proofs.«01_k».proof.Proof.Gen.RopeRefIdeal.Run
public import proofs.«01_k».proof.Proof.Gen.MixRefIdeal.Run
public import Idealize.ShloMosaic.Adequacy
public import Idealize.ShloMosaic.Init
public import proofs.«01_k».proof.Proof.Finite
public import proofs.«01_k».proof.Proof.Ffn
public import proofs.«01_k».proof.Proof.Out
public import proofs.«01_k».proof.Proof.MemKv
public import proofs.«01_k».proof.Proof.MemAttn
public import proofs.«01_k».proof.Proof.Rope
public import proofs.«01_k».proof.Proof.Mix
public import proofs.«01_k».proof.Proof.Attn

@[expose] public section

noncomputable section

namespace Cert.Proof

open Idealize.ShloMosaic Idealize.SL.Sem

/-- The reference `ReferenceIdeal` runs and keeps its arguments. -/
theorem frameReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run (F := Ideal) m g)

/-- The reference `ReferenceIdeal` runs and keeps its arguments, from those of the precondition too. -/
theorem frameReferenceIdealPre : Cert.quiescent_ReferenceIdeal_pre_finite_scores (hReferenceIdeal := Cert.ReferenceIdeal.Gen.facts) (hPre_finite_scores := finite_scores_facts) := fun m g _ =>
  (θ_run Cert.ReferenceIdeal.defs _ _).mono (fun r h => ⟨fun c => (h c).2, sem_eq_zero_of_no_sems (by decide) r.2⟩) (Cert.ReferenceIdeal.Value.run (F := Ideal) m g)

/-- The reference `FfnRefIdeal` runs and keeps its arguments. -/
theorem frameFfnRefIdeal : Cert.quiescent_FfnRefIdeal (hFfnRefIdeal := Cert.FfnRefIdeal.Gen.facts) := fun m g _ =>
  (θ_run Cert.FfnRefIdeal.defs _ _).mono (fun r h => ⟨fun c => (h c).2, sem_eq_zero_of_no_sems (by decide) r.2⟩) (Cert.FfnRefIdeal.Value.run (F := Ideal) m g)

/-- The reference `MemAttnRefIdeal` runs and keeps its arguments. -/
theorem frameMemAttnRefIdeal : Cert.quiescent_MemAttnRefIdeal (hMemAttnRefIdeal := Cert.MemAttnRefIdeal.Gen.facts) := fun m g _ =>
  (θ_run Cert.MemAttnRefIdeal.defs _ _).mono (fun r h => ⟨fun c => (h c).2, sem_eq_zero_of_no_sems (by decide) r.2⟩) (Cert.MemAttnRefIdeal.Value.run (F := Ideal) m g)

/-- The reference `MemAttnRefIdeal` runs and keeps its arguments, from those of the precondition too. -/
theorem frameMemAttnRefIdealPre : Cert.quiescent_MemAttnRefIdeal_pre_finite_memory (hMemAttnRefIdeal := Cert.MemAttnRefIdeal.Gen.facts) (hPre_finite_memory := finite_memory_facts) := fun m g _ =>
  (θ_run Cert.MemAttnRefIdeal.defs _ _).mono (fun r h => ⟨fun c => (h c).2, sem_eq_zero_of_no_sems (by decide) r.2⟩) (Cert.MemAttnRefIdeal.Value.run (F := Ideal) m g)

/-- The reference `OutRefIdeal` runs and keeps its arguments. -/
theorem frameOutRefIdeal : Cert.quiescent_OutRefIdeal (hOutRefIdeal := Cert.OutRefIdeal.Gen.facts) := fun m g _ =>
  (θ_run Cert.OutRefIdeal.defs _ _).mono (fun r h => ⟨fun c => (h c).2, sem_eq_zero_of_no_sems (by decide) r.2⟩) (Cert.OutRefIdeal.Value.run (F := Ideal) m g)

/-- The reference `MemKvRefIdeal` runs and keeps its arguments. -/
theorem frameMemKvRefIdeal : Cert.quiescent_MemKvRefIdeal (hMemKvRefIdeal := Cert.MemKvRefIdeal.Gen.facts) := fun m g _ =>
  (θ_run Cert.MemKvRefIdeal.defs _ _).mono (fun r h => ⟨fun c => (h c).2.2, sem_eq_zero_of_no_sems (by decide) r.2⟩) (Cert.MemKvRefIdeal.Value.run (F := Ideal) m g)

/-- The reference `RopeRefIdeal` runs and keeps its arguments. -/
theorem frameRopeRefIdeal : Cert.quiescent_RopeRefIdeal (hRopeRefIdeal := Cert.RopeRefIdeal.Gen.facts) := fun m g _ =>
  (θ_run Cert.RopeRefIdeal.defs _ _).mono (fun r h => ⟨fun c => (h c).2.2, sem_eq_zero_of_no_sems (by decide) r.2⟩) (Cert.RopeRefIdeal.Value.run (F := Ideal) m g)

/-- The reference `MixRefIdeal` runs and keeps its arguments. -/
theorem frameMixRefIdeal : Cert.quiescent_MixRefIdeal (hMixRefIdeal := Cert.MixRefIdeal.Gen.facts) := fun m g _ =>
  (θ_run Cert.MixRefIdeal.defs _ _).mono (fun r h => ⟨fun c => (h c).2.2.2.2, sem_eq_zero_of_no_sems (by decide) r.2⟩) (Cert.MixRefIdeal.Value.run (F := Ideal) m g)

/-- Every claim of the certificate. -/
theorem claim : Cert.Claim :=
  ⟨Cert.Kernel.Gen.facts,
    Cert.KernelIdeal.Gen.facts,
    Cert.ReferenceIdeal.Gen.facts,
    Cert.Ffn.Gen.facts,
    Cert.FfnIdeal.Gen.facts,
    Cert.FfnRefIdeal.Gen.facts,
    Cert.MemAttn.Gen.facts,
    Cert.MemAttnIdeal.Gen.facts,
    Cert.MemAttnRefIdeal.Gen.facts,
    Cert.Out.Gen.facts,
    Cert.OutIdeal.Gen.facts,
    Cert.OutRefIdeal.Gen.facts,
    Cert.MemKv.Gen.facts,
    Cert.MemKvIdeal.Gen.facts,
    Cert.MemKvRefIdeal.Gen.facts,
    Cert.Rope.Gen.facts,
    Cert.RopeIdeal.Gen.facts,
    Cert.RopeRefIdeal.Gen.facts,
    Cert.Mix.Gen.facts,
    Cert.MixIdeal.Gen.facts,
    Cert.MixRefIdeal.Gen.facts,
    finite_scores_facts,
    finite_memory_facts,
    fun m g _ => Cert.Kernel.Gen.frame m g,
    fun m g _ => Cert.KernelIdeal.Gen.frame m g,
    fun m g _ => Cert.KernelIdeal.Gen.frame m g,
    frameReferenceIdeal,
    frameReferenceIdealPre,
    fun m g _ => Cert.Ffn.Gen.frame m g,
    fun m g _ => Cert.FfnIdeal.Gen.frame m g,
    frameFfnRefIdeal,
    fun m g _ => Cert.MemAttn.Gen.frame m g,
    fun m g _ => Cert.MemAttnIdeal.Gen.frame m g,
    fun m g _ => Cert.MemAttnIdeal.Gen.frame m g,
    frameMemAttnRefIdeal,
    frameMemAttnRefIdealPre,
    fun m g _ => Cert.Out.Gen.frame m g,
    fun m g _ => Cert.OutIdeal.Gen.frame m g,
    frameOutRefIdeal,
    fun m g _ => Cert.MemKv.Gen.frame m g,
    fun m g _ => Cert.MemKvIdeal.Gen.frame m g,
    frameMemKvRefIdeal,
    fun m g _ => Cert.Rope.Gen.frame m g,
    fun m g _ => Cert.RopeIdeal.Gen.frame m g,
    frameRopeRefIdeal,
    fun m g _ => Cert.Mix.Gen.frame m g,
    fun m g _ => Cert.MixIdeal.Gen.frame m g,
    frameMixRefIdeal,
    IdealRules.named_const.statement Cert.KernelIdeal.κ "mask" .f32 0xF149F2CA#32 ⊥ rfl,
    Attn.algebraic,
    trivial,
    Ffn.algebraic,
    trivial,
    MemAttn.algebraic,
    trivial,
    Out.algebraic,
    trivial,
    MemKv.algebraic,
    trivial,
    Rope.algebraic,
    trivial,
    Mix.algebraic⟩

end Cert.Proof

end
